-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_ranges_finite [hPre_ranges_finite : Cert.Pre_ranges_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ranges_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges_finite [hPre_ranges_finite : Cert.Pre_ranges_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ranges_finite [hKernelIdeal : Cert.KernelIdeal.Facts] [hPre_ranges_finite : Cert.Pre_ranges_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ranges_finite [hReferenceIdeal : Cert.ReferenceIdeal.Facts] [hPre_ranges_finite : Cert.Pre_ranges_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e_over_temp" .f32 0x41E6D4CA#32 (((268435456 / 13421773) * (Real.log 2)⁻¹ : ℝ) : EReal)
  ∧ IdealRules.named_const.Statement Cert.KernelIdeal.κ "ln2" .f32 0x3F317218#32 ((Real.log 2 : ℝ) : EReal)

def algebraic_KernelIdeal_ReferenceIdeal_pre_ranges_finite [hKernelIdeal : Cert.KernelIdeal.Facts] [hReferenceIdeal : Cert.ReferenceIdeal.Facts] [hPre_ranges_finite : Cert.Pre_ranges_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ranges : Cert.Pre_ranges.Facts) (hPre_ranges_finite : Cert.Pre_ranges_finite.Facts),
    quiescent_Kernel (hKernel := hKernel) (hPre_ranges := hPre_ranges)
    ∧ quiescent_KernelIdeal (hKernelIdeal := hKernelIdeal) (hPre_ranges := hPre_ranges)
    ∧ quiescent_KernelIdeal_pre_ranges_finite (hKernelIdeal := hKernelIdeal) (hPre_ranges_finite := hPre_ranges_finite)
    ∧ quiescent_ReferenceIdeal (hReferenceIdeal := hReferenceIdeal)
    ∧ quiescent_ReferenceIdeal_pre_ranges_finite (hReferenceIdeal := hReferenceIdeal) (hPre_ranges_finite := hPre_ranges_finite)
    ∧ preserves_Kernel_KernelIdeal
    ∧ algebraic_KernelIdeal_ReferenceIdeal_pre_ranges_finite (hKernelIdeal := hKernelIdeal) (hReferenceIdeal := hReferenceIdeal) (hPre_ranges_finite := hPre_ranges_finite)
-- ==== Pre_ranges.lean ====
abbrev S1024x64 : Shape := ⟨2, ![1024, 64]⟩
abbrev S1024 : Shape := ⟨1, ![1024]⟩
abbrev S_ : Shape := ⟨0, ![]⟩
abbrev S100000x64 : Shape := ⟨2, ![100000, 64]⟩
abbrev S100000 : Shape := ⟨1, ![100000]⟩

class Facts : Prop where
  bcast_S_S1024 : S_.BroadcastsInDim S1024 (![] : Fin 0 → Fin S1024.rank)
  reducesTo_S1024_S_d0 : S1024.ReducesTo [0] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x64 .f32) (main_arg1 : FVec F S1024x64 .f32) (main_arg2 : IVec S1024 32) (main_arg3 : IVec S1024 32) (main_arg4 : IVec S_ 32) (main_arg5 : IVec S_ 32) (main_arg6 : FVec F S100000x64 .f32) (main_arg7 : IVec S100000 32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg2 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_c_3 : IVec S_ 32 := constantI S_ 32 0#32
  let main_v7 : IVec S100000 32 := broadcastInDim S100000 ![] bcast_S_S100000 main_c_3
  let main_v8 : IVec S100000 1 := cmpi .sge main_arg7 main_v7
  let main_c_4 : IVec S_ 1 := constantI S_ 1 1#1
  let main_v9 : IVec S_ 1 := (fun x v => Host.reduce IntOp.andi x v reducesTo_S100000_S_d0 h_S_) main_v8 main_c_4
  let main_v10 : IVec S_ 1 := andi main_v6 main_v9
  let main_c_5 : IVec S_ 32 := constantI S_ 32 5000#32
  let main_v11 : IVec S100000 32 := broadcastInDim S100000 ![] bcast_S_S100000 main_c_5
  let main_v12 : IVec S100000 1 := cmpi .slt main_arg7 main_v11
  let main_c_6 : IVec S_ 1 := constantI S_ 1 1#1
  let main_v13 : IVec S_ 1 := (fun x v => Host.reduce IntOp.andi x v reducesTo_S100000_S_d0 h_S_) main_v12 main_c_6
  let main_v14 : IVec S_ 1 := andi main_v10 main_v13
  main_v14
-- ==== Pre_ranges_finite.lean ====
abbrev S1024x64 : Shape := ⟨2, ![1024, 64]⟩
abbrev S1024 : Shape := ⟨1, ![1024]⟩
abbrev S_ : Shape := ⟨0, ![]⟩
abbrev S100000x64 : Shape := ⟨2, ![100000, 64]⟩
abbrev S100000 : Shape := ⟨1, ![100000]⟩

class Facts : Prop where
  bcast_S_S1024 : S_.BroadcastsInDim S1024 (![] : Fin 0 → Fin S1024.rank)
  reducesTo_S1024_S_d0 : S1024.ReducesTo [0] S_
  h_S_ : 0 < S_.numel
  bcast_S_S100000 : S_.BroadcastsInDim S100000 (![] : Fin 0 → Fin S100000.rank)
  reducesTo_S100000_S_d0 : S100000.ReducesTo [0] S_
  bcast_S_S1024x64 : S_.BroadcastsInDim S1024x64 (![] : Fin 0 → Fin S1024x64.rank)
  reducesTo_S1024x64_S_d0_1 : S1024x64.ReducesTo [0, 1] S_
  bcast_S_S100000x64 : S_.BroadcastsInDim S100000x64 (![] : Fin 0 → Fin S100000x64.rank)
  reducesTo_S100000x64_S_d0_1 : S100000x64.ReducesTo [0, 1] S_
  reducesTo_S1024x64_S1024_d1 : S1024x64.ReducesTo [1] S1024

variable [Facts]

def fn_part2 {F : FTy → Type} [FloatOps F] (main_v30 : IVec S_ 1) (main_v31 : FVec F S1024x64 .f32) (main_cst_13 : FVec F S_ .f32) : IVec S_ 1 :=
  let main_v32 : FVec F S1024 .f32 := (fun x v => Host.reduceAdd x v reducesTo_S1024x64_S1024_d1 h_S_) main_v31 main_cst_13
  let main_cst_14 : FVec F S_ .f32 := constant S_ .f32 0x00000000#32
  let main_v33 : FVec F S1024 .f32 := broadcastInDim S1024 ![] bcast_S_S1024 main_cst_14
  let main_v34 : IVec S1024 1 := cmpf .ogt main_v32 main_v33
  let main_c_15 : IVec S_ 1 := constantI S_ 1 1#1
  let main_v35 : IVec S_ 1 := (fun x v => Host.reduce IntOp.andi x v reducesTo_S1024_S_d0 h_S_) main_v34 main_c_15
  let main_v36 : IVec S_ 1 := andi main_v30 main_v35
  main_v36

def fn_part1 {F : FTy → Type} [FloatOps F] (main_arg0 : FVec F S1024x64 .f32) (main_arg1 : FVec F S1024x64 .f32) (main_arg6 : FVec F S100000x64 .f32) (main_v14 : IVec S_ 1) (main_v15 : FVec F S1024x64 .f32) : IVec S_ 1 :=
  let main_cst : FVec F S_ .f32 := constant S_ .f32 0x7F800000#32
  let main_v16 : FVec F S1024x64 .f32 := broadcastInDim S1024x64 ![] bcast_S_S1024x64 main_cst
  let main_v17 : IVec S1024x64 1 := cmpf .olt main_v15 main_v16
  let main_c_7 : IVec S_ 1 := constantI S_ 1 1#1
  let main_v18 : IVec S_ 1 := (fun x v => Host.reduce IntOp.andi x v reducesTo_S1024x64_S_d0_1 h_S_) main_v17 main_c_7
  let main_v19 : IVec S_ 1 := andi main_v14 main_v18
  let main_v20 : FVec F S100000x64 .f32 := Host.absf main_arg6
  let main_cst_8 : FVec F S_ .f32 := constant S_ .f32 0x7F800000#32
  let main_v21 : FVec F S100000x64 .f32 := broadcastInDim S100000x64 ![] bcast_S_S100000x64 main_cst_8
  let main_v22 : IVec S100000x64 1 := cmpf .olt main_v20 main_v21
  let main_c_9 : IVec S_ 1 := constantI S_ 1 1#1
  let main_v23 : IVec S_ 1 := (fun x v => Host.reduce IntOp.andi x v reducesTo_S100000x64_S_d0_1 h_S_) main_v22 main_c_9
  let main_v24 : IVec S_ 1 := andi main_v19 main_v23
  let main_v25 : FVec F S1024x64 .f32 := mulf main_arg0 main_arg0
  let main_cst_10 : FVec F S_ .f32 := constant S_ .f32 0x00000000#32
  let main_v26 : FVec F S1024 .f32 := (fun x v => Host.reduceAdd x v reducesTo_S1024x64_S1024_d1 h_S_) main_v25 main_cst_10
  let main_cst_11 : FVec F S_ .f32 := constant S_ .f32 0x00000000#32
  let main_v27 : FVec F S1024 .f32 := broadcastInDim S1024 ![] bcast_S_S1024 main_cst_11
  let main_v28 : IVec S1024 1 := cmpf .ogt main_v26 main_v27
  let main_c_12 : IVec S_ 1 := constantI S_ 1 1#1
  let main_v29 : IVec S_ 1 := (fun x v => Host.reduce IntOp.andi x v reducesTo_S1024_S_d0 h_S_) main_v28 main_c_12
  let main_v30 : IVec S_ 1 := andi main_v24 main_v29
  let main_v31 : FVec F S1024x64 .f32 := mulf main_arg1 main_arg1
  let main_cst_13 : FVec F S_ .f32 := constant S_ .f32 0x00000000#32
  fn_part2 (F := F) main_v30 main_v31 main_cst_13

def fn {F : FTy → Type} [FloatOps F] (main_arg0 : FVec F S1024x64 .f32) (main_arg1 : FVec F S1024x64 .f32) (main_arg2 : IVec S1024 32) (main_arg3 : IVec S1024 32) (main_arg4 : IVec S_ 32) (main_arg5 : IVec S_ 32) (main_arg6 : FVec F S100000x64 .f32) (main_arg7 : IVec S100000 32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg2 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_c_3 : IVec S_ 32 := constantI S_ 32 0#32
  let main_v7 : IVec S100000 32 := broadcastInDim S100000 ![] bcast_S_S100000 main_c_3
  let main_v8 : IVec S100000 1 := cmpi .sge main_arg7 main_v7
  let main_c_4 : IVec S_ 1 := constantI S_ 1 1#1
  let main_v9 : IVec S_ 1 := (fun x v => Host.reduce IntOp.andi x v reducesTo_S100000_S_d0 h_S_) main_v8 main_c_4
  let main_v10 : IVec S_ 1 := andi main_v6 main_v9
  let main_c_5 : IVec S_ 32 := constantI S_ 32 5000#32
  let main_v11 : IVec S100000 32 := broadcastInDim S100000 ![] bcast_S_S100000 main_c_5
  let main_v12 : IVec S100000 1 := cmpi .slt main_arg7 main_v11
  let main_c_6 : IVec S_ 1 := constantI S_ 1 1#1
  let main_v13 : IVec S_ 1 := (fun x v => Host.reduce IntOp.andi x v reducesTo_S100000_S_d0 h_S_) main_v12 main_c_6
  let main_v14 : IVec S_ 1 := andi main_v10 main_v13
  let main_v15 : FVec F S1024x64 .f32 := Host.absf main_arg0
  fn_part1 (F := F) main_arg0 main_arg1 main_arg6 main_v14 main_v15
-- ==== Kernel.lean ====
abbrev S1024x64 : Shape := ⟨2, ![1024, 64]⟩
abbrev S1024 : Shape := ⟨1, ![1024]⟩
abbrev S_ : Shape := ⟨0, ![]⟩
abbrev S100000x64 : Shape := ⟨2, ![100000, 64]⟩
abbrev S100000 : Shape := ⟨1, ![100000]⟩
abbrev S32 : Shape := ⟨1, ![32]⟩
abbrev S2x512x1 : Shape := ⟨3, ![2, 512, 1]⟩
abbrev S10x1x10000 : Shape := ⟨3, ![10, 1, 10000]⟩
abbrev S2x1x1 : Shape := ⟨3, ![2, 1, 1]⟩
abbrev S512x64 : Shape := ⟨2, ![512, 64]⟩
abbrev S1x512x1 : Shape := ⟨3, ![1, 512, 1]⟩
abbrev S10000x64 : Shape := ⟨2, ![10000, 64]⟩
abbrev S1x1x10000 : Shape := ⟨3, ![1, 1, 10000]⟩
abbrev S1x1x1 : Shape := ⟨3, ![1, 1, 1]⟩
abbrev S512x1 : Shape := ⟨2, ![512, 1]⟩
abbrev S1x64 : Shape := ⟨2, ![1, 64]⟩
abbrev S1 : Shape := ⟨1, ![1]⟩
abbrev S512 : Shape := ⟨1, ![512]⟩
abbrev S512x10000 : Shape := ⟨2, ![512, 10000]⟩
abbrev S64 : Shape := ⟨1, ![64]⟩
abbrev S1x1x1x10000 : Shape := ⟨4, ![1, 1, 1, 10000]⟩
abbrev S1x1x1x1 : Shape := ⟨4, ![1, 1, 1, 1]⟩
abbrev S1x10000 : Shape := ⟨2, ![1, 10000]⟩
abbrev S1x512x64 : Shape := ⟨3, ![1, 512, 64]⟩
abbrev S2 : Shape := ⟨1, ![2]⟩

abbrev nBuf : Table → Nat
  | .hbm => 15
  | .local .tc .vmem => 16
  | .local .tc .smem => 1
  | .local .scVector .vmem => 2
  | _ => 0

abbrev bufTy : (tb : Table) → Fin (nBuf tb) → BufTy
  | .hbm, ⟨0, _⟩ => ⟨S1024x64, .f32⟩
  | .hbm, ⟨1, _⟩ => ⟨S1024x64, .f32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S100000x64, .f32⟩
  | .hbm, ⟨7, _⟩ => ⟨S100000, .i32⟩
  | .hbm, ⟨8, _⟩ => ⟨S1024, .i32⟩
  | .hbm, ⟨9, _⟩ => ⟨S2x512x1, .i32⟩
  | .hbm, ⟨10, _⟩ => ⟨S10x1x10000, .i32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .local .tc .vmem, ⟨0, _⟩ => ⟨S512x64, .f32⟩
  | .local .tc .vmem, ⟨1, _⟩ => ⟨S512x64, .f32⟩
  | .local .tc .vmem, ⟨2, _⟩ => ⟨S512x64, .f32⟩
  | .local .tc .vmem, ⟨3, _⟩ => ⟨S512x64, .f32⟩
  | .local .tc .vmem, ⟨4, _⟩ => ⟨S1x512x1, .i32⟩
  | .local .tc .vmem, ⟨5, _⟩ => ⟨S1x512x1, .i32⟩
  | .local .tc .vmem, ⟨6, _⟩ => ⟨S10000x64, .f32⟩
  | .local .tc .vmem, ⟨7, _⟩ => ⟨S10000x64, .f32⟩
  | .local .tc .vmem, ⟨8, _⟩ => ⟨S1x1x10000, .i32⟩
  | .local .tc .vmem, ⟨9, _⟩ => ⟨S1x1x10000, .i32⟩
  | .local .tc .vmem, ⟨10, _⟩ => ⟨S1x1x1, .f32⟩
  | .local .tc .vmem, ⟨11, _⟩ => ⟨S1x1x1, .f32⟩
  | .local .tc .vmem, ⟨12, _⟩ => ⟨S512x1, .f32⟩
  | .local .tc .vmem, ⟨13, _⟩ => ⟨S512x1, .f32⟩
  | .local .tc .vmem, ⟨14, _⟩ => ⟨S1x64, .f32⟩
  | .local .tc .vmem, ⟨15, _⟩ => ⟨S512x1, .f32⟩
  | .local .tc .smem, ⟨0, _⟩ => ⟨S1, .i32⟩
  | .local .scVector .vmem, ⟨0, _⟩ => ⟨S32, .i32⟩
  | .local .scVector .vmem, ⟨1, _⟩ => ⟨S32, .i32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_arg2_scv : Ref sig .scVector := ⟨.hbm, 2, rfl⟩
abbrev main_arg7_scv : Ref sig .scVector := ⟨.hbm, 7, rfl⟩
abbrev main_v0_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc1_scratch4 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨2, ![2, 10], ![false, false]⟩

def k1_cond3 (i : grid1.Coords) : BitVec 1 :=
  let arg1 : BitVec 32 := BitVec.ofNat 32 (i 1).val
  let c9_i32 : BitVec 32 := 9#32
  let v38 : BitVec 1 := Scalar.cmpi .eq arg1 c9_i32
  let v39 : BitVec 32 := Scalar.extui v38
  let c0_i32_24 : BitVec 32 := 0#32
  let v40 : BitVec 1 := Scalar.cmpi .ne v39 c0_i32_24
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x10000 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e_over_temp" => some (((268435456 / 13421773) * (Real.log 2)⁻¹ : ℝ) : EReal)
  | _ => none
-- ==== ReferenceIdeal.lean ====
abbrev S1024x64 : Shape := ⟨2, ![1024, 64]⟩
abbrev S1024 : Shape := ⟨1, ![1024]⟩
abbrev S_ : Shape := ⟨0, ![]⟩
abbrev S100000x64 : Shape := ⟨2, ![100000, 64]⟩
abbrev S100000 : Shape := ⟨1, ![100000]⟩
abbrev S1024x1 : Shape := ⟨2, ![1024, 1]⟩
abbrev S1 : Shape := ⟨1, ![1]⟩
abbrev S1x1 : Shape := ⟨2, ![1, 1]⟩
abbrev S64x100000 : Shape := ⟨2, ![64, 100000]⟩
abbrev S1024x100000 : Shape := ⟨2, ![1024, 100000]⟩
abbrev S1024x2 : Shape := ⟨2, ![1024, 2]⟩

abbrev nBuf : Space → Nat
  | .hbm => 121
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S100000x64, .f32⟩
  | .hbm, ⟨7, _⟩ => ⟨S100000, .i32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1x1, .i32⟩
  | .hbm, ⟨21, _⟩ => ⟨S1024x1, .i32⟩
  | .hbm, ⟨22, _⟩ => ⟨S1024x1, .i1⟩
  | .hbm, ⟨23, _⟩ => ⟨S1024x1, .i1⟩
  | .hbm, ⟨24, _⟩ => ⟨S_, .i1⟩
  | .hbm, ⟨25, _⟩ => ⟨S1024, .i1⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S64x100000, .f32⟩
  | .hbm, ⟨35, _⟩ => ⟨S1024x100000, .f32⟩
  | .hbm, ⟨36, _⟩ => ⟨S_, .f32⟩
  | .hbm, ⟨37, _⟩ => ⟨S1024x100000, .f32⟩
  | .hbm, ⟨38, _⟩ => ⟨S1024x100000, .f32⟩
  | .hbm, ⟨39, _⟩ => ⟨S_, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024x1, .f32⟩
  | .hbm, ⟨45, _⟩ => ⟨S1024x100000, .f32⟩
  | .hbm, ⟨46, _⟩ => ⟨S1024x100000, .f32⟩
  | .hbm, ⟨47, _⟩ => ⟨S1024x100000, .f32⟩
  | .hbm, ⟨48, _⟩ => ⟨S_, .f32⟩
  | .hbm, ⟨49, _⟩ => ⟨S1024, .f32⟩
  | .hbm, ⟨50, _⟩ => ⟨S1024x1, .f32⟩
  | .hbm, ⟨51, _⟩ => ⟨S1024x1, .f32⟩
  | .hbm, ⟨52, _⟩ => ⟨S1024x100000, .f32⟩
  | .hbm, ⟨53, _⟩ => ⟨S1024x100000, .f32⟩
  | .hbm, ⟨54, _⟩ => ⟨S_, .f32⟩
  | .hbm, ⟨55, _⟩ => ⟨S1024x100000, .f32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x1, .i32⟩
  | .hbm, ⟨72, _⟩ => ⟨S1024x1, .i32⟩
  | .hbm, ⟨73, _⟩ => ⟨S1024x2, .i32⟩
  | .hbm, ⟨74, _⟩ => ⟨S_, .f32⟩
  | .hbm, ⟨75, _⟩ => ⟨S1024, .f32⟩
  | .hbm, ⟨76, _⟩ => ⟨S1024x100000, .f32⟩
  | .hbm, ⟨77, _⟩ => ⟨S_, .f32⟩
  | .hbm, ⟨78, _⟩ => ⟨S1024x100000, .f32⟩
  | .hbm, ⟨79, _⟩ => ⟨S1024x100000, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S1024x100000, .f32⟩
  | .hbm, ⟨85, _⟩ => ⟨S1024x100000, .f32⟩
  | .hbm, ⟨86, _⟩ => ⟨S1024x100000, .f32⟩
  | .hbm, ⟨87, _⟩ => ⟨S1024x100000, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S_, .f32⟩
  | .hbm, ⟨94, _⟩ => ⟨S_, .f32⟩
  | .hbm, ⟨95, _⟩ => ⟨S1024x64, .f32⟩
  | .hbm, ⟨96, _⟩ => ⟨S_, .f32⟩
  | .hbm, ⟨97, _⟩ => ⟨S1024, .f32⟩
  | .hbm, ⟨98, _⟩ => ⟨S1024x1, .f32⟩
  | .hbm, ⟨99, _⟩ => ⟨S1024x1, .f32⟩
  | .hbm, ⟨100, _⟩ => ⟨S1024x64, .f32⟩
  | .hbm, ⟨101, _⟩ => ⟨S1024x64, .f32⟩
  | .hbm, ⟨102, _⟩ => ⟨S1024x64, .f32⟩
  | .hbm, ⟨103, _⟩ => ⟨S_, .f32⟩
  | .hbm, ⟨104, _⟩ => ⟨S1024, .f32⟩
  | .hbm, ⟨105, _⟩ => ⟨S1024x1, .f32⟩
  | .hbm, ⟨106, _⟩ => ⟨S1024x1, .f32⟩
  | .hbm, ⟨107, _⟩ => ⟨S1024x64, .f32⟩
  | .hbm, ⟨108, _⟩ => ⟨S1024x64, .f32⟩
  | .hbm, ⟨109, _⟩ => ⟨S1024x64, .f32⟩
  | .hbm, ⟨110, _⟩ => ⟨S_, .f32⟩
  | .hbm, ⟨111, _⟩ => ⟨S1024, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_c_4 : Ref sig .tc := ⟨.hbm, 27, rfl⟩
abbrev main_call0_v14 : Ref sig .tc := ⟨.hbm, 28, rfl⟩
abbrev main_v0 : Ref sig .tc := ⟨.hbm, 29, rfl⟩
abbrev main_c : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v7 : Ref sig .tc := ⟨.hbm, 53, rfl⟩
abbrev main_cst_1 : Ref sig .tc := ⟨.hbm, 54, rfl⟩
abbrev main_v8 : Ref sig .tc := ⟨.hbm, 55, rfl⟩
abbrev main_v9 : Ref sig .tc := ⟨.hbm, 56, rfl⟩
abbrev main_c_2 : Ref sig .tc := ⟨.hbm, 57, rfl⟩
abbrev main_v10 : Ref sig .tc := ⟨.hbm, 58, rfl⟩
abbrev main_v11 : Ref sig .tc := ⟨.hbm, 59, rfl⟩
abbrev main_c_3 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_c_5 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_cst_6 : Ref sig .tc := ⟨.hbm, 74, rfl⟩
abbrev main_v23 : Ref sig .tc := ⟨.hbm, 75, rfl⟩
abbrev main_v24 : Ref sig .tc := ⟨.hbm, 76, rfl⟩
abbrev main_cst_7 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_8 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_9 : Ref sig .tc := ⟨.hbm, 88, rfl⟩
abbrev main_v34 : Ref sig .tc := ⟨.hbm, 89, rfl⟩
abbrev main_cst_10 : Ref sig .tc := ⟨.hbm, 90, rfl⟩
abbrev main_v35 : Ref sig .tc := ⟨.hbm, 91, rfl⟩
abbrev main_v36 : Ref sig .tc := ⟨.hbm, 92, rfl⟩
abbrev main_cst_11 : Ref sig .tc := ⟨.hbm, 93, rfl⟩
abbrev main_v37 : Ref sig .tc := ⟨.hbm, 94, rfl⟩
abbrev main_call2_v0 : Ref sig .tc := ⟨.hbm, 95, rfl⟩
abbrev main_call2_cst : Ref sig .tc := ⟨.hbm, 96, rfl⟩
abbrev main_call2_v1 : Ref sig .tc := ⟨.hbm, 97, rfl⟩
abbrev main_call2_v2 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_call3_v0 : Ref sig .tc := ⟨.hbm, 102, rfl⟩
abbrev main_call3_cst : Ref sig .tc := ⟨.hbm, 103, rfl⟩
abbrev main_call3_v1 : Ref sig .tc := ⟨.hbm, 104, rfl⟩
abbrev main_call3_v2 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_cst_12 : Ref sig .tc := ⟨.hbm, 110, rfl⟩
abbrev main_v45 : Ref sig .tc := ⟨.hbm, 111, rfl⟩
abbrev main_cst_13 : Ref sig .tc := ⟨.hbm, 112, rfl⟩
abbrev main_v46 : Ref sig .tc := ⟨.hbm, 113, rfl⟩
abbrev main_cst_14 : Ref sig .tc := ⟨.hbm, 114, rfl⟩
abbrev main_v47 : Ref sig .tc := ⟨.hbm, 115, rfl⟩
abbrev main_cst_15 : Ref sig .tc := ⟨.hbm, 116, rfl⟩
abbrev main_v48 : Ref sig .tc := ⟨.hbm, 117, rfl⟩
abbrev main_cst_16 : Ref sig .tc := ⟨.hbm, 118, rfl⟩
abbrev main_v49 : Ref sig .tc := ⟨.hbm, 119, rfl⟩
abbrev main_v50 : Ref sig .tc := ⟨.hbm, 120, rfl⟩

abbrev nD : Nat := 1
abbrev τ : Topo := Topo.v7x

variable {F : FTy → Type} [FloatOps F]
-- ==== Proof.Setup.lean ====
/-
  The launch as the proof sees it: the handshakes' configuration, the ghost state (handshakes, the pipeline's rounds,
  the transfers' counters), the buffers the SparseCore call touches, and how they are dealt to its thirty-two tasks.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Mem

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The configuration -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores, -/
theorem nCore_zero : (K (F := F)).nCore 0 = 2 := rfl
/-- sixteen tasks on each. -/
theorem nSub_zero : (K (F := F)).nSub 0 = 16 := rfl

/-- The launch's semaphores are four distinct unscoped cells and no scalar-subcore buffer is shared with tasks. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds. -/
abbrev EH : Emb UH (MT nD τ sig (HIx 1) (Elt F) ℕ UU ℕ) := embL
/-- The pipeline's rounds. -/
abbrev EP : Emb UP (MT nD τ sig (HIx 1) (Elt F) ℕ UU ℕ) := (Emb.inl : Emb UP (UP × Counters)).trans embR

/-! ## The buffers of the SparseCore call -/

/-- The targets, -/
abbrev tLoc (d : Dev nD) : Loc nD τ sig := (SparseCore.T d).loc main_arg2
/-- the labels of all samples, -/
abbrev lLoc (d : Dev nD) : Loc nD τ sig := (SparseCore.T d).loc main_arg7
/-- the gathered labels. -/
abbrev oLoc (d : Dev nD) : Loc nD τ sig := (SparseCore.T d).loc main_v0

local notation "tV" => (Memref.whole Cert.KernelIdeal.main_arg2_scv : Memref Cert.KernelIdeal.sig Kind.scVector Space.hbm Cert.KernelIdeal.S1024 EltTy.i32)
local notation "lV" => (Memref.whole Cert.KernelIdeal.main_arg7_scv : Memref Cert.KernelIdeal.sig Kind.scVector Space.hbm Cert.KernelIdeal.S100000 EltTy.i32)
local notation "oV" => (Memref.whole Cert.KernelIdeal.main_v0_scv : Memref Cert.KernelIdeal.sig Kind.scVector Space.hbm Cert.KernelIdeal.S1024 EltTy.i32)

/-- Thirty-two equal pieces of the 1024 samples. -/
theorem div32 : 32 ∣ S1024.size 0 := ⟨32, rfl⟩
abbrev piece (w : Fin 32) : Rect S1024 := Rect.part (s := S1024) (a₀ := 0) div32 w
abbrev pieceSet (w : Fin 32) : Finset S1024.Idx := (piece w).set

/-- Task `s` of SparseCore `c` works on piece `2 s + c`. -/
def wid (c : Fin 2) (s : Fin 16) : Fin 32 := ⟨2 * s.val + c.val, by omega⟩

/-- Each piece has one task. -/
def widEquiv : Fin 2 × Fin 16 ≃ Fin 32 where
  toFun x := wid x.1 x.2
  invFun w := (⟨w.val % 2, by omega⟩, ⟨w.val / 2, by omega⟩)
  left_inv x := by
    rcases x with ⟨c, s⟩
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-! ## The share of the labels each task reads -/

/-- The halves of `q`, `n` times over: piece `i` of the `2 ^ n`, by the bits of `i` from the lowest. -/
def cut : (n : ℕ) → PosShare TreeShare → ℕ → PosShare TreeShare
  | 0, q, _ => q
  | n + 1, q, i => if i % 2 = 0 then cut n q.left (i / 2) else cut n q.right (i / 2)

/-- Numbers below twice `N` are a bit and a number below `N`. -/
def bitEquiv (N : ℕ) : Fin N ⊕ Fin N ≃ Fin (2 * N) where
  toFun := Sum.elim (fun i => ⟨2 * i.val, by omega⟩) (fun i => ⟨2 * i.val + 1, by omega⟩)
  invFun w := if w.val % 2 = 0 then .inl ⟨w.val / 2, by omega⟩ else .inr ⟨w.val / 2, by omega⟩
  left_inv x := by
    rcases x with i | i
    · simp
    · have h : (2 * i.val + 1) % 2 = 1 := by omega
      have h' : (2 * i.val + 1) / 2 = i.val := by omega
      simp [h, h']
  right_inv w := by
    by_cases h : w.val % 2 = 0
    · simp only [h, ↓reduceIte, Sum.elim_inl]; exact Fin.ext (by show 2 * (w.val / 2) = w.val; omega)
    · simp only [h, ↓reduceIte, Sum.elim_inr]; exact Fin.ext (by show 2 * (w.val / 2) + 1 = w.val; omega)

omit [FloatOps F] [Named F] in
/-- A buffer held at a share is held at all its cuts. -/
theorem pointsTo_cut {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{cut n q i.val} f := by
  intro n
  induction n with
  | zero => intro q; exact (bigSep_univ_of_subsingleton (0 : Fin 1) (Φ := fun i : Fin (2 ^ 0) => (ℓ ↦[I]{cut 0 q i.val} f : sProp 𝕄))).symm
  | succ n ih =>
    intro q
    have e : 2 * 2 ^ n = 2 ^ (n + 1) := by rw [pow_succ, Nat.mul_comm]
    rw [BI.Entails.antisymm (pointsTo_share (PosShare.mem_left_op_right q)).1 (pointsTo_share (PosShare.mem_left_op_right q)).2,
      ih q.left, ih q.right,
      bigSep_univ_equiv ((bitEquiv (2 ^ n)).trans (finCongr e)) (fun i : Fin (2 ^ (n + 1)) => (ℓ ↦[I]{cut (n + 1) q i.val} f : sProp 𝕄)),
      bigSep_univ_sum]
    congr 1 <;> refine bigSep_congr fun i _ => ?_
    · have h : (((bitEquiv (2 ^ n)).trans (finCongr e)) (Sum.inl i)).val = 2 * i.val := rfl
      rw [h, cut, if_pos (by omega), show 2 * i.val / 2 = i.val by omega]
    · have h : (((bitEquiv (2 ^ n)).trans (finCongr e)) (Sum.inr i)).val = 2 * i.val + 1 := rfl
      rw [h, cut, if_neg (by omega), show (2 * i.val + 1) / 2 = i.val by omega]

/-- The share of the labels the task of piece `w` reads. -/
abbrev lq (w : Fin 32) : PosShare TreeShare := cut 5 fullShare w.val

/-! ## What the handshakes carry -/

variable (m : (ℓ : Loc nD τ sig) → Buf (Elt F) ℓ) (ρ : Dev nD → PrngReg)

omit m [FloatOps F] [Named F] in
/-- The element of a list of 100000 a word names, the first if it names none. -/
def at100000 (w : BitVec 32) : S100000.Idx := fun a => match a with
  | 0 => if h : w.toNat < 100000 then ⟨w.toNat, h⟩ else ⟨0, by decide⟩

/-- What the call computes: the label of each target. -/
def gathered (d : Dev nD) : Buf (Elt F) (oLoc d) := fun j : S1024.Idx => m (lLoc d) (at100000 (m (tLoc d) j))

/-- A task's piece of the targets, -/
abbrev tPiece (d : Dev nD) (w : Fin 32) : sProp 𝕄 := tLoc d ↦[pieceSet w]{fullShare} m (tLoc d)
/-- its share of the labels, -/
abbrev lPiece (d : Dev nD) (w : Fin 32) : sProp 𝕄 := lLoc d ↦{lq w} m (lLoc d)
/-- its piece of the output, at contents `f`. -/
abbrev oPiece (d : Dev nD) (w : Fin 32) (f : Buf (Elt F) (oLoc d)) : sProp 𝕄 := oLoc d ↦[pieceSet w]{fullShare} f

/-- What a task takes, -/
abbrev taskIn (d : Dev nD) (w : Fin 32) : sProp 𝕄 := iprop(tPiece m d w ∗ lPiece m d w ∗ oPiece d w (m (oLoc d)))
/-- what it hands back. -/
abbrev taskOut (d : Dev nD) (w : Fin 32) : sProp 𝕄 := iprop(tPiece m d w ∗ lPiece m d w ∗ oPiece d w (gathered m d))

/-- Each SparseCore takes what its sixteen tasks take and hands back what they hand back. -/
def P : (K (F := F)).Pay (nD := nD) (Val := Elt F) (Name := ℕ) (U := UU) where
  st := fun q d c => match q with | 0 => bigSep Finset.univ fun i : Fin 16 => taskIn m d (wid (Fin.cast nCore_zero c) i)
  dn := fun q d c => match q with | 0 => bigSep Finset.univ fun i : Fin 16 => taskOut m d (wid (Fin.cast nCore_zero c) i)
  go := fun q d c i => match q with | 0 => taskIn m d (wid (Fin.cast nCore_zero c) (Fin.cast nSub_zero i))
  td := fun q d c i => match q with | 0 => taskOut m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => taskIn m d (wid (Fin.cast nCore_zero c) i)))
  dn q d c := match q with
    | 0 => (inferInstance : BI.Storable (upEmb : UEmb _ 𝕄) (bigSep Finset.univ fun i : Fin 16 => taskOut m d (wid (Fin.cast nCore_zero c) i)))
  go q d c i := match q with
    | 0 => (inferInstance : BI.Storable (upEmb : UEmb _ 𝕄) (taskIn m d (wid (Fin.cast nCore_zero c) (Fin.cast nSub_zero i))))
  td q d c i := match q with
    | 0 => (inferInstance : BI.Storable (upEmb : UEmb _ 𝕄) (taskOut m d (wid (Fin.cast nCore_zero c) (Fin.cast nSub_zero i))))

/-- What the proof asks of the launch memory: every target names a sample. -/
def PreOK : Prop := ∀ (d : Dev nD) (j : S1024.Idx), (m (tLoc d) j).toNat < 100000

/-! ## Splitting and joining -/

omit [FloatOps F] [Named F] in
theorem pieces_disjoint : ∀ i ∈ (Finset.univ : Finset (Fin 32)), ∀ j ∈ (Finset.univ : Finset (Fin 32)), i ≠ j → Disjoint (pieceSet i) (pieceSet j) :=
  fun _ _ _ _ h => Rect.part_disjoint div32 h
omit [FloatOps F] [Named F] in
theorem pieces_cover : (Finset.univ : Finset (Fin 32)).biUnion pieceSet = Finset.univ := Rect.biUnion_part div32

omit [FloatOps F] [Named F] in
/-- Targets and output held whole are held by pieces; -/
theorem tLoc_pieces (d : Dev nD) (f : Buf (Elt F) (tLoc d)) :
    (tLoc d ↦{fullShare} f : sProp 𝕄) = bigSep Finset.univ fun w : Fin 32 => tLoc d ↦[pieceSet w]{fullShare} f := by
  rw [← pointsTo_biUnion Finset.univ (ℓ := tLoc d) pieceSet pieces_disjoint, pieces_cover]; try rfl
omit [FloatOps F] [Named F] in
theorem oLoc_pieces (d : Dev nD) (f : Buf (Elt F) (oLoc d)) :
    (oLoc d ↦{fullShare} f : sProp 𝕄) = bigSep Finset.univ fun w : Fin 32 => oLoc d ↦[pieceSet w]{fullShare} f := by
  rw [← pointsTo_biUnion Finset.univ (ℓ := oLoc d) pieceSet pieces_disjoint, pieces_cover]; try rfl
omit [FloatOps F] [Named F] in
/-- the labels by shares. -/
theorem lLoc_pieces (d : Dev nD) (f : Buf (Elt F) (lLoc d)) :
    (lLoc d ↦{fullShare} f : sProp 𝕄) = bigSep Finset.univ fun w : Fin 32 => lLoc d ↦{lq w} f :=
  pointsTo_cut Finset.univ f 5 fullShare

omit [FloatOps F] [Named F] in
/-- A conjunction over the pieces is one over the SparseCores and their tasks. -/
theorem bigSep_pieces (Φ : Fin 32 → sProp 𝕄) :
    bigSep Finset.univ Φ = bigSep Finset.univ fun c : Fin 2 => bigSep Finset.univ fun i : Fin 16 => Φ (wid c i) := by
  rw [bigSep_univ_equiv widEquiv Φ, BI.bigSep_univ_prod]; rfl

/-- The three buffers whole are what the two SparseCores take, -/
theorem st_eq (d : Dev nD) : (bigSep Finset.univ fun c : Fin ((K (F := F)).nCore 0) => (P m).st 0 d c)
    = iprop((tLoc d ↦{fullShare} m (tLoc d)) ∗ (lLoc d ↦{fullShare} m (lLoc d)) ∗ oLoc d ↦{fullShare} m (oLoc d)) := by
  rw [tLoc_pieces, lLoc_pieces, oLoc_pieces, ← bigSep_sep', ← bigSep_sep', bigSep_pieces]; rfl
/-- and, the output at the labels of the targets, what they hand back. -/
theorem dn_eq (d : Dev nD) : (bigSep Finset.univ fun c : Fin ((K (F := F)).nCore 0) => (P m).dn 0 d c)
    = iprop((tLoc d ↦{fullShare} m (tLoc d)) ∗ (lLoc d ↦{fullShare} m (lLoc d)) ∗ oLoc d ↦{fullShare} gathered m d) := by
  rw [tLoc_pieces, lLoc_pieces, oLoc_pieces, ← bigSep_sep', ← bigSep_sep', bigSep_pieces]; rfl

/-- A SparseCore deals what it takes to its tasks as it stands, and hands back what they hand back. -/
theorem vecSplit : (K (F := F)).VecSplit' (P m) 0 := by
  intro d c
  show (bigSep Finset.univ fun i : Fin 16 => taskIn m d (wid (Fin.cast nCore_zero c) i)) ⊢ |={Set.univ}=> iprop(
      (bigSep Finset.univ fun i : Fin 16 => taskIn m d (wid (Fin.cast nCore_zero c) i))
      ∗ ((bigSep Finset.univ fun i : Fin 16 => taskOut m d (wid (Fin.cast nCore_zero c) i))
          -∗ (bigSep Finset.univ fun i : Fin 16 => taskOut m d (wid (Fin.cast nCore_zero c) i))))
  iintro H; imodintro
  isplitl [H]; · iexact H
  iintro H'; iexact H'

end Cert.Proof.Mem

end
-- ==== Proof.Task.lean ====
/-
  One task of the SparseCore call: it fetches its piece of the targets, gathers the labels they name and writes them
  to its piece of the output.
-/
module

public import proofs.«01_k».proof.Proof.Setup

@[expose] public section

noncomputable section

namespace Cert.Proof.Mem

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tV" => (Memref.whole Cert.KernelIdeal.main_arg2_scv : Memref Cert.KernelIdeal.sig Kind.scVector Space.hbm Cert.KernelIdeal.S1024 EltTy.i32)
local notation "lV" => (Memref.whole Cert.KernelIdeal.main_arg7_scv : Memref Cert.KernelIdeal.sig Kind.scVector Space.hbm Cert.KernelIdeal.S100000 EltTy.i32)
local notation "oV" => (Memref.whole Cert.KernelIdeal.main_v0_scv : Memref Cert.KernelIdeal.sig Kind.scVector Space.hbm Cert.KernelIdeal.S1024 EltTy.i32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32 EltTy.i32)

variable (m : (ℓ : Loc nD τ sig) → Buf (Elt F) ℓ) (ρ : Dev nD → PrngReg)

section Tile

variable (d : Dev nD) (L : grid0.Coords)

/-- The subcore the task at coordinates `L` runs on, -/
abbrev cOf (L : grid0.Coords) : Fin τ.nSC := (L 0).castLE hcore0
abbrev jOf (L : grid0.Coords) : Fin τ.nSub := (L 1).castLE hsub0
/-- and its piece. -/
abbrev wOf (L : grid0.Coords) : Fin 32 := wid (Fin.cast rfl (L 0)) (Fin.cast rfl (L 1))

/-- The task's piece as the task addresses it. -/
abbrev pieceK (L : grid0.Coords) : Rect S1024 := Rect.unit (s := S1024) (k0_off1 L) S32.size (k0_off1_inb L)
abbrev tK (L : grid0.Coords) : Memref sig .scVector .hbm S32 .i32 := (tV).slice (pieceK L) (fun _ => rfl)
abbrev oK (L : grid0.Coords) : Memref sig .scVector .hbm S32 .i32 := (oV).slice (pieceK L) (fun _ => rfl)
abbrev lK : Memref sig .scVector .hbm S100000 .i32 := (lV).slice (Rect.unit (s := S100000) ![0] S100000.size inb_S100000_S100000_0) (fun _ => rfl)

omit [FloatOps F] [Named F] in
theorem pieceK_eq : pieceK L = piece (wOf L) := by
  unfold pieceK piece Rect.part Rect.block
  congr 1 <;> funext a
  · rw [k0_off1_eq]
    match a with
    | 0 =>
      show 64 * (L 1).val + 32 * (L 0).val = (2 * (L 1).val + (L 0).val) * 32
      ring
  · match a with
    | 0 => rfl

omit [FloatOps F] [Named F] in
theorem set_tK : (tK L).view.set = pieceSet (wOf L) := by
  show ((View.whole (main_arg2_scv : Ref sig .scVector)).slice (pieceK L)).set = _
  rw [View.set_slice, pieceK_eq]; exact Finset.map_refl
omit [FloatOps F] [Named F] in
theorem set_oK : (oK L).view.set = pieceSet (wOf L) := by
  show ((View.whole (main_v0_scv : Ref sig .scVector)).slice (pieceK L)).set = _
  rw [View.set_slice, pieceK_eq]; exact Finset.map_refl

omit [FloatOps F] [Named F] in
theorem pts_tK (f : Buf (Elt F) (tLoc d)) :
    ((tK L).view.loc (V d (cOf L) (jOf L)) ↦[(tK L).view.set]{fullShare} f : sProp 𝕄) = tLoc d ↦[pieceSet (wOf L)]{fullShare} f := by
  rw [set_tK]
omit [FloatOps F] [Named F] in
theorem pts_oK (f : Buf (Elt F) (oLoc d)) :
    ((oK L).view.loc (V d (cOf L) (jOf L)) ↦[(oK L).view.set]{fullShare} f : sProp 𝕄) = oLoc d ↦[pieceSet (wOf L)]{fullShare} f := by
  rw [set_oK]
omit [FloatOps F] [Named F] in
theorem pts_lV (q : PosShare TreeShare) (f : Buf (Elt F) (lLoc d)) :
    ((lV).view.loc (V d (cOf L) (jOf L)) ↦{q} f : sProp 𝕄) = lLoc d ↦{q} f := rfl
omit [FloatOps F] [Named F] in
theorem pts_sV (f : Buf (Elt F) ((V d (cOf L) (jOf L)).loc cc0_scratch0)) :
    ((sV).view.loc (V d (cOf L) (jOf L)) ↦{fullShare} f : sProp 𝕄) = (V d (cOf L) (jOf L)).loc cc0_scratch0 ↦{fullShare} f := rfl
omit [FloatOps F] [Named F] in
theorem pts_rV (f : Buf (Elt F) ((V d (cOf L) (jOf L)).loc cc0_scratch1)) :
    ((rV).view.loc (V d (cOf L) (jOf L)) ↦{fullShare} f : sProp 𝕄) = (V d (cOf L) (jOf L)).loc cc0_scratch1 ↦{fullShare} f := rfl

/-- The task's three completion cells: the fetch's, the gather's, the write-out's. -/
abbrev fetchCell (d : Dev nD) (c : Fin τ.nSC) (i : Fin τ.nSub) : GSem nD τ sig := (V d c i, .dma cc0_scoped0.sem)
abbrev gatherCell (d : Dev nD) (c : Fin τ.nSC) (i : Fin τ.nSub) : GSem nD τ sig := (V d c i, .dma cc0_scratch2.sem)
abbrev outCell (d : Dev nD) (c : Fin τ.nSC) (i : Fin τ.nSub) : GSem nD τ sig := (V d c i, .dma cc0_scoped1.sem)

omit [FloatOps F] [Named F] in
/-- The three cells are among the subcore's own, at zero with the rest. -/
theorem ownSems0_task :
    (ownSems0 (V d (cOf L) (jOf L)) : sProp 𝕄)
      = iprop(semVal (fetchCell d (cOf L) (jOf L)) 0 ∗ semVal (gatherCell d (cOf L) (jOf L)) 0 ∗ semVal (outCell d (cOf L) (jOf L)) 0
          ∗ bigSep ((((ownCells (V d (cOf L) (jOf L))).erase (fetchCell d (cOf L) (jOf L))).erase (gatherCell d (cOf L) (jOf L))).erase (outCell d (cOf L) (jOf L))) fun g => semVal g 0) := by
  unfold SparseCore.Cfg.ownSems0
  rw [SparseCore.bigSep_erase' ((mem_ownCells (g := fetchCell d (cOf L) (jOf L))).mpr ⟨rfl, by
      show (SemLoc.dma cc0_scoped0.sem : SemLoc sig).isScoped .scVector = true; decide⟩),
    SparseCore.bigSep_erase' (Finset.mem_erase.mpr ⟨by simp [fetchCell, gatherCell]; decide, (mem_ownCells (g := gatherCell d (cOf L) (jOf L))).mpr ⟨rfl, by
      show (SemLoc.dma cc0_scratch2.sem : SemLoc sig).isScoped .scVector = true; decide⟩⟩),
    SparseCore.bigSep_erase' (Finset.mem_erase.mpr ⟨by simp [gatherCell, outCell]; decide, Finset.mem_erase.mpr ⟨by simp [fetchCell, outCell]; decide,
      (mem_ownCells (g := outCell d (cOf L) (jOf L))).mpr ⟨rfl, by show (SemLoc.dma cc0_scoped1.sem : SemLoc sig).isScoped .scVector = true; decide⟩⟩⟩)]

omit [FloatOps F] [Named F] in
/-- The two scratch buffers are among the subcore's own, each at some contents, with the rest. -/
theorem ownBufs_task :
    (ownBufs (V d (cOf L) (jOf L)) : sProp 𝕄)
      = iprop((∃ f, (V d (cOf L) (jOf L)).loc cc0_scratch0 ↦{fullShare} f) ∗ (∃ f, (V d (cOf L) (jOf L)).loc cc0_scratch1 ↦{fullShare} f)
          ∗ bigSep (((ownRefs (τ := τ) (.scVector (cOf L) (jOf L))).erase ((Proc.scVector (cOf L) (jOf L)).devRef cc0_scratch0)).erase
              ((Proc.scVector (cOf L) (jOf L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cOf L) (jOf L))
    (b := (Proc.scVector (cOf L) (jOf L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cOf L) (jOf L)) (b := (Proc.scVector (cOf L) (jOf L)).devRef cc0_scratch1) rfl⟩)]

/-- The fetched targets are in range. -/
theorem fetched_inb (hpre : PreOK m) (fs : Buf (Elt F) ((V d (cOf L) (jOf L)).loc cc0_scratch0)) (pay : S32.Idx → Elt F .i32)
    (hpay : pay = (tK L).view.read (Elt F) (m (tLoc d))) :
    ∀ x, ((sV).view.read (Elt F) (View.write (Elt F) (sV).view fs pay Finset.univ) x).toNat < S100000.size gathers_S100000_S32.axis := by
  subst hpay; intro x
  rw [View.write_whole_univ]
  simp only [Memref.view_whole, View.read_whole]
  rw [show ∀ j, (tK L).view.read (Elt F) (m (tLoc d)) j = m (tLoc d) ((tK L).view.emb j) from fun j => (View.read_apply _ _).trans (cast_eq _ _)]
  exact hpre d _

omit [FloatOps F] [Named F] in
/-- Entry `k` of a list of 32 words, as a row of 100000. -/
theorem rows_val (idx : S32.Idx → BitVec 32) (h : ∀ x, (idx x).toNat < 100000) (k : Fin 32) (x : S32.Idx) (hk : k.val = (x 0).val) :
    (SparseCore.rows (F := F) (si := S32) (o := 32) (z := 100000) idx rfl h k).val = (idx x).toNat :=
  congrArg (fun y : S32.Idx => (idx y).toNat)
    ((Equiv.symm_apply_eq _).2 (Fin.ext (hk.trans (Shape.rowMajor_val_one x).symm)))

/-- What the gather delivers, element by element: the label of the target fetched at the same place. -/
theorem gather_val (fs : Buf (Elt F) ((V d (cOf L) (jOf L)).loc cc0_scratch0)) (h) (x : S32.Idx) :
    SparseCore.gatherPayload (F := F) (e := .i32) gathers_S100000_S32 ((lK).view.read (Elt F) (m (lLoc d)))
      (SparseCore.rows (F := F) (si := S32) ((sV).view.read (Elt F) (View.write (Elt F) (sV).view fs ((tK L).view.read (Elt F) (m (tLoc d))) Finset.univ)) rfl h) x
      = gathered m d ((oK L).view.emb x) := by
  have e : ∀ j, (sV).view.read (Elt F) (View.write (Elt F) (sV).view fs ((tK L).view.read (Elt F) (m (tLoc d))) Finset.univ) j
      = m (tLoc d) ((tK L).view.emb j) := by
    intro j
    rw [View.write_whole_univ]
    simp only [Memref.view_whole, View.read_whole]
    exact (View.read_apply _ _).trans (cast_eq _ _)
  have hr : (SparseCore.rows (F := F) (si := S32) ((sV).view.read (Elt F) (View.write (Elt F) (sV).view fs ((tK L).view.read (Elt F) (m (tLoc d))) Finset.univ)) rfl h
      (x gathers_S100000_S32.axis')).val = (m (tLoc d) ((oK L).view.emb x)).toNat :=
    (rows_val (F := F) _ h (x 0) x rfl).trans (congrArg (fun w : BitVec 32 => w.toNat) (e x))
  have hlt : (m (tLoc d) ((oK L).view.emb x)).toNat < 100000 := by
    rw [← hr]; exact Fin.isLt _
  unfold SparseCore.gatherPayload gathered
  rw [View.read_apply, cast_eq]
  refine congrArg (m (lLoc d)) (funext fun a => Fin.ext ?_)
  match a with
  | 0 =>
    show ((lK).view.emb _ 0).val = _
    have h0 : ∀ y : S100000.Idx, ((lK).view.emb y 0).val = (y 0).val := by
      intro y; show 0 + 1 * (y 0).val = _; omega
    rw [h0]
    show (gathers_S100000_S32.idx _ x gathers_S100000_S32.axis).val = _
    rw [Shape.Gathers.idx_axis]
    refine hr.trans ?_
    show _ = (if h : (m (tLoc d) ((oK L).view.emb x)).toNat < 100000 then (⟨_, h⟩ : Fin 100000) else ⟨0, by decide⟩).val
    rw [dif_pos hlt]

/-- The output piece as the task leaves it is at the gathered labels. -/
theorem out_val (pay : S32.Idx → Elt F .i32) (h : ∀ x, pay x = gathered m d ((oK L).view.emb x)) :
    ∀ i ∈ (oK L).view.set, (oK L).view.writes (Elt F) (m (oLoc d)) [⟨Rect.whole S32, pay⟩] i = gathered m d i := by
  intro i hi
  obtain ⟨x, -, rfl⟩ := Finset.mem_map.mp hi
  have := congrFun (Idealize.ShloMosaic.View.read_writes_whole (oK L).view (m (oLoc d)) pay) x
  rw [View.read_apply, cast_eq] at this
  exact this.trans (h x)

set_option maxHeartbeats 4000000 in
/-- The task at `L`: from its pieces, its scratch and its cells to its pieces with the output at the gathered labels. -/
theorem task_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskIn m d (wOf L)
        ∗ scopedBufs (V d (cOf L) (jOf L)) ∗ scopedSems0 (V d (cOf L) (jOf L)) ∗ owes (V d (cOf L) (jOf L)) O W)
      ⊢ wp frame (wpE (defs₀ (F := F)) 𝒱₀ (V d (cOf L) (jOf L)) none) Set.univ
          (cc0_gather_kernel L tV (Memref.isWhole_whole _) lV (Memref.isWhole_whole _) oV (Memref.isWhole_whole _)
            sV (Memref.isWhole_whole _) rV (Memref.isWhole_whole _) cc0_scratch2 cc0_scoped0 cc0_scoped1)
          fun _ => iprop(taskOut m d (wOf L)
            ∗ scopedBufs (V d (cOf L) (jOf L)) ∗ scopedSems0 (V d (cOf L) (jOf L))
            ∗ ∃ W', ⌜∀ p ∈ W', p ∈ W ∨ p.2 = none⌝ ∗ owes (V d (cOf L) (jOf L)) O W') := by
  simp only [cc0_gather_kernel_eq_skeleton]; unfold cc0_gather_kernel_skel
  rw [(K (F := F)).scopedBufs_V hF d (cOf L) (jOf L), SparseCore.Cfg.scopedSems0_V (Val := Elt F) d (cOf L) (jOf L), ownSems0_task, ownBufs_task]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cOf L) (jOf L)) (default : HIx 1) O from
    (K (F := F)).mayWaits_none (thr := V d (cOf L) (jOf L)) hO) $$ Hlv
  ihave Hi' := (Entails.of_eq (pts_tK (F := F) d L _).symm) $$ Hi
  ihave Ho' := (Entails.of_eq (pts_oK (F := F) d L _).symm) $$ Ho
  ihave Hx' := (Entails.of_eq (pts_lV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := lq (wOf L)) (f := m (lLoc d)) (S := Finset.univ) (Finset.subset_univ (lK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cOf L) (jOf L)) ↦{fullShare} fr : sProp 𝕄)
      = (rV).view.loc (V d (cOf L) (jOf L)) ↦[(rV).view.set]{fullShare} fr by rw [hrs])) $$ Hr'
  ihave Hs'' := (Entails.of_eq (show ((sV).view.loc (V d (cOf L) (jOf L)) ↦{fullShare} View.write (Elt F) (sV).view fs (task_body.sl.dma0 m d L) Finset.univ : sProp 𝕄)
      = (sV).view.loc (V d (cOf L) (jOf L)) ↦[(sV).view.set]{fullShare} View.write (Elt F) (sV).view fs (task_body.sl.dma0 m d L) Finset.univ
      by rw [hss])) $$ Hs'
  have hN : ∀ h : S100000.Gathers 0 S32, ∑ j, ((rV).slice (S32.rowRect h.axis' j) (S32.stride_rowRect h.axis' j)).view.dmaCredit
      = (rV).view.dmaCredit := by decide
  iapply (SparseCore.wp_indirectGatherLocal countersEmb 𝒱₀ (V d (cOf L) (jOf L)) none (hg := gathers_S100000_S32) (default : HIx 1)
      (rV).view.dmaCredit (hN _) (by decide) (fetched_inb m d L hpre fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cOf L) (jOf L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := lq (wOf L)) (f := m (lLoc d)) (S := Finset.univ) (Finset.subset_univ (lK).view.set)).2 $$ [Hxs Hxr]; · isplitl [Hxs] <;> iassumption
  ihave Hr3 := (Entails.of_eq (show ((rV).view.loc (V d (cOf L) (jOf L)) ↦[(rV).view.set]{fullShare} _ : sProp 𝕄)
      = (rV).view.loc (V d (cOf L) (jOf L)) ↦{fullShare} _ by rw [hrs])) $$ Hr'
  ihave Hs3 := (Entails.of_eq (show ((sV).view.loc (V d (cOf L) (jOf L)) ↦[(sV).view.set]{fullShare} _ : sProp 𝕄)
      = (sV).view.loc (V d (cOf L) (jOf L)) ↦{fullShare} _ by rw [hss])) $$ Hs'
  sl_exec
  sl_step
  isplitl [Hi' Hx' Ho']
  · isplitl [Hi']; · iapply (Entails.of_eq (pts_tK (F := F) d L _)); iexact Hi'
    isplitl [Hx']; · iexact Hx'
    ihave Ho2 := (Entails.of_eq (pointsTo_congr (q := fullShare) (out_val m d L (task_body.sl.dma0_1 m d L hpre fs fr) (fun x => by
      unfold task_body.sl.dma0_1
      refine Eq.trans ?_ (gather_val m d L fs (fetched_inb m d L hpre fs _ rfl) x)
      exact congrFun (View.read_write_univ _ _) x)))) $$ Ho'
    iapply (Entails.of_eq (pts_oK (F := F) d L _)); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of the call -/

/-- The coordinates of task `s` of SparseCore `c`. -/
def coordsOf (c : Fin (grid0.bound 0)) (s : Fin (grid0.bound 1)) : grid0.Coords :=
  fun | 0 => c | 1 => s | ⟨_ + 2, h⟩ => absurd h (Nat.not_lt.2 (Nat.le_add_left _ _))

/-- The body a vector subcore runs for the call. -/
theorem body_vector (c : Fin τ.nSC) (s : Fin τ.nSub) :
    defs₀ (F := F) (.scVector c s) 0 ()
      = SparseCore.onTile hcore0 hsub0 (fun c s => cc0_gather_kernel (coordsOf c s)
          tV (Memref.isWhole_whole _) lV (Memref.isWhole_whole _) oV (Memref.isWhole_whole _)
          sV (Memref.isWhole_whole _) rV (Memref.isWhole_whole _) cc0_scratch2 cc0_scoped0 cc0_scoped1) ⟨⟩ c s := rfl

omit [FloatOps F] [Named F] in
/-- Waits recorded at the transfers' index are waits the call allows. -/
theorem widen_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call does what the handshakes say of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_vector]; simp only [SparseCore.onTile, hci, and_self, ↓reduceDIte]
  exact (task_body m d (coordsOf ⟨_, hci.1⟩ ⟨_, hci.2⟩) facts hpre O W hO).trans (wp_mono frame _ _ fun _ => widen_waits)

end Tile

end Cert.Proof.Mem

end
-- ==== Proof.Runs.lean ====
/-
  One run of the TensorCore kernel's body: what its whole-buffer stores leave in the scratch buffers and, at the last
  block of a half, in the output's staging buffer.
-/
module

public import proofs.«01_k».proof.Proof.Setup
public import Idealize.ShloMosaic.Lib.Pipeline.FrameBody
public import Idealize.ShloMosaic.Lib.WordCmp
public import Idealize.ShloMosaic.Lib.VecWindow

@[expose] public section

set_option maxRecDepth 16384

noncomputable section

namespace Cert.Proof.Mem

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F] [Named F]

local notation "𝕄" => MT nD τ sig (HIx 1) (Elt F) ℕ UU ℕ

/-! ## The accumulators and the body's arithmetic on them -/

/-- What the kernel's scratch buffers carry from one block of the memory bank to the next: each row's offset, its sum of
    powers, the sum of the memory rows, the target's similarity, and the largest label seen. -/
structure Acc (F : FTy → Type) where
  m : Vec F S512x1 .f32
  s : Vec F S512x1 .f32
  g : Vec F S1x64 .f32
  t : Vec F S512x1 .f32
  a : BitVec 32

/-- The larger of a label seen so far and the labels of a block. -/
def maxLabel (x4 : Vec F S1x1x10000 .i32) (a : BitVec 32) : BitVec 32 :=
  Scalar.maxsi a (extractAt ![0, 0, 0, 0] (k1_pay1 (k1_pay15 (F := F) x4)) inpos_S1x1x1x1_p0_0_0_0)

/-- The accumulators after a half's first block. -/
def first (i : grid1.Coords) (x0 : Vec F S512x64 .f32) (x2 : Vec F S1x512x1 .i32) (x3 : Vec F S10000x64 .f32) (x4 : Vec F S1x1x10000 .i32) : Acc F where
  m := k1_pay8 x0
  s := k1_pay13 x0 x3 k1_pay9 (k1_pay8 x0)
  g := k1_pay14 x3 k1_pay10
  t := k1_pay2 (BitVec.ofNat 32 (i 1).val) (k1_pay12 x0 x3) x2 k1_pay11
  a := maxLabel x4 0#32

/-- The accumulators after a later block. -/
def later (x0 : Vec F S512x64 .f32) (x3 : Vec F S10000x64 .f32) (x4 : Vec F S1x1x10000 .i32) (acc : Acc F) : Acc F where
  m := acc.m
  s := k1_pay13 x0 x3 acc.s acc.m
  g := k1_pay14 x3 acc.g
  t := acc.t
  a := maxLabel x4 acc.a

/-- A half's part of the loss, from its accumulators after the last block. -/
def lossOf (x0 x1 : Vec F S512x64 .f32) (acc : Acc F) : Vec F S1x1x1 .f32 :=
  k1_pay3 (k1_pay4 (k1_pay7 x0) acc.m acc.s acc.g acc.t acc.a) x1 (k1_pay5 (k1_pay7 x0)) (k1_pay6 x1)

/-! ## The body's three conditions, over the grid's points -/

/-- The block is the half's first, -/
abbrev cond1 (i : grid1.Coords) : Prop := (Scalar.cmpi .ne (Scalar.extui (Scalar.cmpi .eq (BitVec.ofNat 32 (i 1).val) 0#32)) 0#32) = 1#1
/-- the block can hold a target, -/
abbrev cond2 (i : grid1.Coords) : Prop := (Scalar.cmpi .ne (Scalar.extui (Scalar.cmpi .slt (BitVec.ofNat 32 (i 1).val) 1#32)) 0#32) = 1#1
/-- the block is the half's last. -/
abbrev cond3 (i : grid1.Coords) : Prop := k1_cond3 i = 1#1

/-- Point `t`'s block within its half. -/
theorem coord_one (t : Fin cfg1.N) : (grid1.coords t 1).val = t.val % 10 := by
  have e1 : (grid1.coords t 1).val = t.val / 1 % 10 := Pipeline.Grid.coords_val t 1 (by decide) rfl
  rw [e1, Nat.div_one]
/-- Point `t`'s half. -/
theorem coord_zero (t : Fin cfg1.N) : (grid1.coords t 0).val = t.val / 10 := by
  have ht : t.val < 20 := Nat.lt_of_lt_of_eq t.isLt N_1
  have e0 : (grid1.coords t 0).val = t.val / 10 % 2 := Pipeline.Grid.coords_val t 0 (by decide) rfl
  omega

theorem hcond1 (t : Fin cfg1.N) : cond1 (grid1.coords t) ↔ t.val % 10 = 0 := by
  have ht : t.val < 20 := Nat.lt_of_lt_of_eq t.isLt N_1
  simp only [cond1, coord_one]
  word_cmp
theorem hcond2 (t : Fin cfg1.N) : cond2 (grid1.coords t) ↔ t.val % 10 = 0 :=
  (by decide +kernel : ∀ t : Fin grid1.N, cond2 (grid1.coords t) ↔ t.val % 10 = 0) t
theorem hcond3 (t : Fin cfg1.N) : cond3 (grid1.coords t) ↔ t.val % 10 = 9 := by
  have ht : t.val < 20 := Nat.lt_of_lt_of_eq t.isLt N_1
  simp only [cond3, k1_cond3, coord_one]
  word_cmp

/-! ## The body's runs -/

theorem pay12_eq {v0 v0' : Vec F S512x64 .f32} {v6 v6' : Vec F S10000x64 .f32} (h0 : v0 = v0') (h6 : v6 = v6') :
    k1_pay12 v0 v6 = k1_pay12 v0' v6' := by subst h0 h6; rfl
theorem pay13_eq {v0 v0' : Vec F S512x64 .f32} {v6 v6' : Vec F S10000x64 .f32} {v8 v8' v9 v9' : Vec F S512x1 .f32} (h0 : v0 = v0') (h6 : v6 = v6')
    (h8 : v8 = v8') (h9 : v9 = v9') : k1_pay13 v0 v6 v8 v9 = k1_pay13 v0' v6' v8' v9' := by subst h0 h6 h8 h9; rfl
theorem pay14_eq {v6 v6' : Vec F S10000x64 .f32} {v v' : Vec F S1x64 .f32} (h6 : v6 = v6') (h : v = v') :
    k1_pay14 v6 v = k1_pay14 v6' v' := by subst h6 h; rfl
theorem pay2_eq {b : BitVec 32} {v7 v7' : FVec F S512x10000 .f32} {v41 v41' : Vec F S1x512x1 .i32} {v v' : Vec F S512x1 .f32} (h7 : v7 = v7')
    (h41 : v41 = v41') (h : v = v') : k1_pay2 b v7 v41 v = k1_pay2 b v7' v41' v' := by subst h7 h41 h; rfl
theorem maxLabel_eq {a a' : BitVec 32} {x x' : Vec F S1x1x10000 .i32} (ha : a = a') (hx : x = x') :
    (fun _ : S1.Idx => Scalar.maxsi a (extractAt ![0, 0, 0, 0] (k1_pay1 (k1_pay15 (F := F) x)) inpos_S1x1x1x1_p0_0_0_0)) = fun _ => maxLabel x' a' := by
  subst ha hx; rfl
theorem maxLabel_eqW {a a' : BitVec 32} {x x' : Vec F S1x1x10000 .i32} (ha : a = a') (hx : x = x') :
    Scalar.maxsi a (extractAt ![0, 0, 0, 0] (k1_pay1 (k1_pay15 (F := F) x)) inpos_S1x1x1x1_p0_0_0_0) = maxLabel x' a' := by
  subst ha hx; rfl
theorem maxLabel_fn (x : Vec F S1x1x10000 .i32) (z : BitVec 32) :
    (fun _ : S1.Idx => Scalar.maxsi z (extractAt ![0, 0, 0, 0] (k1_pay1 (k1_pay15 (F := F) x)) inpos_S1x1x1x1_p0_0_0_0)) = fun _ => maxLabel x z := rfl
theorem first_a (i : grid1.Coords) (x0 : Vec F S512x64 .f32) (x2 : Vec F S1x512x1 .i32) (x3 : Vec F S10000x64 .f32) (x4 : Vec F S1x1x10000 .i32) :
    (first i x0 x2 x3 x4).a = maxLabel x4 0#32 := by dsimp only [first]
theorem first_label (i : grid1.Coords) (x0 : Vec F S512x64 .f32) (x2 : Vec F S1x512x1 .i32) (x3 : Vec F S10000x64 .f32) (x4 : Vec F S1x1x10000 .i32) :
    (fun _ : S1.Idx => Scalar.maxsi 0#32 (extractAt ![0, 0, 0, 0] (k1_pay1 (k1_pay15 (F := F) x4)) inpos_S1x1x1x1_p0_0_0_0)) = fun _ => (first i x0 x2 x3 x4).a :=
  (maxLabel_fn x4 0#32).trans (congrArg (fun (z : BitVec 32) (_ : S1.Idx) => z) (first_a i x0 x2 x3 x4).symm)
theorem lossOf_eq {v0 x0 x1 x1' : Vec F S512x64 .f32} {acc : Acc F} {m s t : Vec F S512x1 .f32} {g : Vec F S1x64 .f32} {a : BitVec 32}
    (h0 : v0 = x0) (h1 : x1' = x1) (hm : m = acc.m) (hs : s = acc.s) (hg : g = acc.g) (ht : t = acc.t) (ha : a = acc.a) :
    k1_pay3 (k1_pay4 (k1_pay7 v0) m s g t a) x1' (k1_pay5 (k1_pay7 v0)) (k1_pay6 x1') = lossOf x0 x1 acc := by
  subst h0 h1 hm hs hg ht ha; rfl

/-- A load of a whole buffer reads what it holds. -/
theorem readAt_unread_full {κ : Kind} {sp : Space} {s : Shape} {e : EltTy} (a : Memref sig κ sp s e) (ha : a.IsWhole) (x : s.Idx → Elt F e)
    {off : Fin s.rank → ℕ} (inb : ∀ k, off k + s.size k ≤ s.size k) :
    a.view.readAt (Elt F) (Rect.unit off s.size inb).toLoadRect (ha.unread x) = x :=
  (View.readAt_full a.view _ inb).trans (ha.read_unread x)

/-- A load of the one-word buffer reads what it holds. -/
theorem smem_held (a : Memref sig .tc .smem S1 .i32) (ha : a.IsWhole) (x : BitVec 32) {off : Fin S1.rank → ℕ} (inb : ∀ k, off k + S1.size k ≤ S1.size k)
    (i : (Rect.unit off S1.size inb).shape.Idx) :
    a.view.readAt (Elt F) (Rect.unit off S1.size inb).toLoadRect (ha.unread fun _ => x) i = x :=
  congrFun (readAt_unread_full (F := F) a ha (fun _ => x) inb) i
/-- A load of the one-word buffer after a store reads what was stored. -/
theorem smem_after (a : Memref sig .tc .smem S1 .i32) (f : a.view.ty.Contents (Elt F)) (x : BitVec 32) (L : List (View.Piece (Elt F) S1 .i32))
    {off off' : Fin S1.rank → ℕ} (inb : ∀ k, off k + S1.size k ≤ S1.size k) (inb' : ∀ k, off' k + S1.size k ≤ S1.size k)
    (i : (Rect.unit off S1.size inb).shape.Idx) :
    a.view.readAt (Elt F) (Rect.unit off S1.size inb).toLoadRect (a.view.writes (Elt F) f (⟨Rect.unit off' S1.size inb', fun _ => x⟩ :: L)) i = x :=
  congrFun (View.readAt_writes_full a.view f inb inb' (fun _ => x) L) i

set_option maxHeartbeats 1000000 in
/-- A half's first block: every scratch buffer is set anew. -/
theorem run_first (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S1x512x1 .i32) (harg4 : arg4.IsWhole) (arg5 : Memref sig .tc .vmem S10000x64 .f32) (harg5 : arg5.IsWhole) (arg6 : Memref sig .tc .vmem S1x1x10000 .i32) (harg6 : arg6.IsWhole) (arg7 : Memref sig .tc .vmem S1x1x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x64 .f32) (harg10 : arg10.IsWhole) (arg11 : Memref sig .tc .vmem S512x1 .f32) (harg11 : arg11.IsWhole) (arg12 : Memref sig .tc .smem S1 .i32) (harg12 : arg12.IsWhole) (hc0 : cond1 i) (hc1 : cond2 i) (hc2 : ¬cond3 i)
    (x0 x1 : Vec F S512x64 .f32) (x2 : Vec F S1x512x1 .i32) (x3 : Vec F S10000x64 .f32) (x4 : Vec F S1x1x10000 .i32) (d7 : Vec F S1x1x1 .f32)
    (E : Set ℕ) (Q : PUnit → sProp 𝕄) :
    iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare d7 ∗ (∃ d, owns (c.tc : Thread nD τ) arg8 fullShare d) ∗ (∃ d, owns (c.tc : Thread nD τ) arg9 fullShare d) ∗ (∃ d, owns (c.tc : Thread nD τ) arg10 fullShare d) ∗ (∃ d, owns (c.tc : Thread nD τ) arg11 fullShare d) ∗ (∃ d, owns (c.tc : Thread nD τ) arg12 fullShare d)
        ∗ (iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare d7 ∗ owns (c.tc : Thread nD τ) arg8 fullShare (first i x0 x2 x3 x4).m ∗ owns (c.tc : Thread nD τ) arg9 fullShare (first i x0 x2 x3 x4).s ∗ owns (c.tc : Thread nD τ) arg10 fullShare (first i x0 x2 x3 x4).g ∗ owns (c.tc : Thread nD τ) arg11 fullShare (first i x0 x2 x3 x4).t ∗ owns (c.tc : Thread nD τ) arg12 fullShare (fun _ => (first i x0 x2 x3 x4).a)) -∗ Q ⟨⟩))
      ⊢ wp frame (wpE (defs₀ (F := F)) Variants.none c.tc none) E (cc1__stream_kernel i arg2 harg2 arg3 harg3 arg4 harg4 arg5 harg5 arg6 harg6 arg7 harg7 arg8 harg8 arg9 harg9 arg10 harg10 arg11 harg11 arg12 harg12) Q := by
  simp only [cc1__stream_kernel_eq_skeleton]; unfold cc1__stream_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro; refine (View.read_writes_full _ _ _ _ _).trans ?_; refine congrArg k1_pay8 (readAt_unread_full _ _ _ _)
  isplitl [HS1]
  · iexists _; isplitr; swap; · iexact HS1
    ipureintro; refine (View.read_writes_full _ _ _ _ _).trans ?_; refine pay13_eq (readAt_unread_full _ _ _ _) (readAt_unread_full _ _ _ _) (View.readAt_writes_full _ _ _ _ _ _) ((View.readAt_writes_full _ _ _ _ _ _).trans (congrArg k1_pay8 (readAt_unread_full _ _ _ _)))
  isplitl [HS2]
  · iexists _; isplitr; swap; · iexact HS2
    ipureintro; refine (View.read_writes_full _ _ _ _ _).trans ?_; refine pay14_eq (readAt_unread_full _ _ _ _) (View.readAt_writes_full _ _ _ _ _ _)
  isplitl [HS3]
  · iexists _; isplitr; swap; · iexact HS3
    ipureintro; refine (View.read_writes_full _ _ _ _ _).trans ?_; refine pay2_eq (pay12_eq (readAt_unread_full _ _ _ _) (readAt_unread_full _ _ _ _)) (readAt_unread_full _ _ _ _) (View.readAt_writes_full _ _ _ _ _ _)
  iexists _; isplitr; swap; · iexact HS4
  ipureintro; refine (View.read_writes_full _ _ _ _ _).trans ?_; unfold run_first.sl.r_3; have e4 : View.readAt (Elt F) arg6.view (Rect.unit (s := S1x1x10000) ![0, 0, 0] S1x1x10000.size inb_S1x1x10000_S1x1x10000_0_0_0).toLoadRect (harg6.unread x4) = x4 := readAt_unread_full _ _ _ _
  rw [e4]
  exact first_label i x0 x2 x3 x4

set_option maxHeartbeats 1000000 in
/-- A block between: the sums and the largest label go on. -/
theorem run_mid (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S1x512x1 .i32) (harg4 : arg4.IsWhole) (arg5 : Memref sig .tc .vmem S10000x64 .f32) (harg5 : arg5.IsWhole) (arg6 : Memref sig .tc .vmem S1x1x10000 .i32) (harg6 : arg6.IsWhole) (arg7 : Memref sig .tc .vmem S1x1x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x64 .f32) (harg10 : arg10.IsWhole) (arg11 : Memref sig .tc .vmem S512x1 .f32) (harg11 : arg11.IsWhole) (arg12 : Memref sig .tc .smem S1 .i32) (harg12 : arg12.IsWhole) (hc0 : ¬cond1 i) (hc1 : ¬cond2 i) (hc2 : ¬cond3 i)
    (x0 x1 : Vec F S512x64 .f32) (x2 : Vec F S1x512x1 .i32) (x3 : Vec F S10000x64 .f32) (x4 : Vec F S1x1x10000 .i32) (acc : Acc F) (d7 : Vec F S1x1x1 .f32)
    (E : Set ℕ) (Q : PUnit → sProp 𝕄) :
    iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare d7 ∗ owns (c.tc : Thread nD τ) arg8 fullShare acc.m ∗ owns (c.tc : Thread nD τ) arg9 fullShare acc.s ∗ owns (c.tc : Thread nD τ) arg10 fullShare acc.g ∗ owns (c.tc : Thread nD τ) arg11 fullShare acc.t ∗ owns (c.tc : Thread nD τ) arg12 fullShare (fun _ => acc.a)
        ∗ (iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare d7 ∗ owns (c.tc : Thread nD τ) arg8 fullShare (later x0 x3 x4 acc).m ∗ owns (c.tc : Thread nD τ) arg9 fullShare (later x0 x3 x4 acc).s ∗ owns (c.tc : Thread nD τ) arg10 fullShare (later x0 x3 x4 acc).g ∗ owns (c.tc : Thread nD τ) arg11 fullShare (later x0 x3 x4 acc).t ∗ owns (c.tc : Thread nD τ) arg12 fullShare (fun _ => (later x0 x3 x4 acc).a)) -∗ Q ⟨⟩))
      ⊢ wp frame (wpE (defs₀ (F := F)) Variants.none c.tc none) E (cc1__stream_kernel i arg2 harg2 arg3 harg3 arg4 harg4 arg5 harg5 arg6 harg6 arg7 harg7 arg8 harg8 arg9 harg9 arg10 harg10 arg11 harg11 arg12 harg12) Q := by
  simp only [cc1__stream_kernel_eq_skeleton]; unfold cc1__stream_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3; obtain rfl := harg12.eq_unread hfs4
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [HS0]
  · iexists _; isplitr; swap; · iexact HS0
    ipureintro; exact harg8.read_unread _
  isplitl [HS1]
  · iexists _; isplitr; swap; · iexact HS1
    ipureintro; refine (View.read_writes_full _ _ _ _ _).trans ?_; refine pay13_eq (readAt_unread_full _ _ _ _) (readAt_unread_full _ _ _ _) (readAt_unread_full _ _ _ _) (readAt_unread_full _ _ _ _)
  isplitl [HS2]
  · iexists _; isplitr; swap; · iexact HS2
    ipureintro; refine (View.read_writes_full _ _ _ _ _).trans ?_; refine pay14_eq (readAt_unread_full _ _ _ _) (readAt_unread_full _ _ _ _)
  isplitl [HS3]
  · iexists _; isplitr; swap; · iexact HS3
    ipureintro; exact harg11.read_unread _
  iexists _; isplitr; swap; · iexact HS4
  ipureintro; refine (View.read_writes_full _ _ _ _ _).trans ?_; refine maxLabel_eq (smem_held _ _ _ _ _) (readAt_unread_full _ _ _ _)

set_option maxHeartbeats 1000000 in
/-- A half's last block: the sums go on and the half's loss is stored. -/
theorem run_last (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S1x512x1 .i32) (harg4 : arg4.IsWhole) (arg5 : Memref sig .tc .vmem S10000x64 .f32) (harg5 : arg5.IsWhole) (arg6 : Memref sig .tc .vmem S1x1x10000 .i32) (harg6 : arg6.IsWhole) (arg7 : Memref sig .tc .vmem S1x1x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S1x64 .f32) (harg10 : arg10.IsWhole) (arg11 : Memref sig .tc .vmem S512x1 .f32) (harg11 : arg11.IsWhole) (arg12 : Memref sig .tc .smem S1 .i32) (harg12 : arg12.IsWhole) (hc0 : ¬cond1 i) (hc1 : ¬cond2 i) (hc2 : cond3 i)
    (x0 x1 : Vec F S512x64 .f32) (x2 : Vec F S1x512x1 .i32) (x3 : Vec F S10000x64 .f32) (x4 : Vec F S1x1x10000 .i32) (acc : Acc F)
    (E : Set ℕ) (Q : PUnit → sProp 𝕄) :
    iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ (∃ d, owns (c.tc : Thread nD τ) arg7 fullShare d) ∗ owns (c.tc : Thread nD τ) arg8 fullShare acc.m ∗ owns (c.tc : Thread nD τ) arg9 fullShare acc.s ∗ owns (c.tc : Thread nD τ) arg10 fullShare acc.g ∗ owns (c.tc : Thread nD τ) arg11 fullShare acc.t ∗ owns (c.tc : Thread nD τ) arg12 fullShare (fun _ => acc.a)
        ∗ (iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare (lossOf x0 x1 (later x0 x3 x4 acc)) ∗ owns (c.tc : Thread nD τ) arg8 fullShare (later x0 x3 x4 acc).m ∗ owns (c.tc : Thread nD τ) arg9 fullShare (later x0 x3 x4 acc).s ∗ owns (c.tc : Thread nD τ) arg10 fullShare (later x0 x3 x4 acc).g ∗ owns (c.tc : Thread nD τ) arg11 fullShare (later x0 x3 x4 acc).t ∗ owns (c.tc : Thread nD τ) arg12 fullShare (fun _ => (later x0 x3 x4 acc).a)) -∗ Q ⟨⟩))
      ⊢ wp frame (wpE (defs₀ (F := F)) Variants.none c.tc none) E (cc1__stream_kernel i arg2 harg2 arg3 harg3 arg4 harg4 arg5 harg5 arg6 harg6 arg7 harg7 arg8 harg8 arg9 harg9 arg10 harg10 arg11 harg11 arg12 harg12) Q := by
  simp only [cc1__stream_kernel_eq_skeleton]; unfold cc1__stream_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2; obtain rfl := harg11.eq_unread hfs3; obtain rfl := harg12.eq_unread hfs4
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; refine (View.read_writes_full _ _ _ _ _).trans ?_; refine lossOf_eq (readAt_unread_full _ _ _ _) (readAt_unread_full _ _ _ _) (readAt_unread_full _ _ _ _) ((View.readAt_writes_full _ _ _ _ _ _).trans (pay13_eq (readAt_unread_full _ _ _ _) (readAt_unread_full _ _ _ _) (readAt_unread_full _ _ _ _) (readAt_unread_full _ _ _ _))) ((View.readAt_writes_full _ _ _ _ _ _).trans (pay14_eq (readAt_unread_full _ _ _ _) (readAt_unread_full _ _ _ _))) (readAt_unread_full _ _ _ _) ?_; unfold run_last.sl.r_5; exact maxLabel_eqW (smem_held _ _ _ _ _) (readAt_unread_full _ _ _ _)
  isplitl [HS0]
  · iexists _; isplitr; swap; · iexact HS0
    ipureintro; exact harg8.read_unread _
  isplitl [HS1]
  · iexists _; isplitr; swap; · iexact HS1
    ipureintro; refine (View.read_writes_full _ _ _ _ _).trans ?_; refine pay13_eq (readAt_unread_full _ _ _ _) (readAt_unread_full _ _ _ _) (readAt_unread_full _ _ _ _) (readAt_unread_full _ _ _ _)
  isplitl [HS2]
  · iexists _; isplitr; swap; · iexact HS2
    ipureintro; refine (View.read_writes_full _ _ _ _ _).trans ?_; refine pay14_eq (readAt_unread_full _ _ _ _) (readAt_unread_full _ _ _ _)
  isplitl [HS3]
  · iexists _; isplitr; swap; · iexact HS3
    ipureintro; exact harg11.read_unread _
  iexists _; isplitr; swap; · iexact HS4
  ipureintro; refine (View.read_writes_full _ _ _ _ _).trans ?_; refine maxLabel_eq (smem_held _ _ _ _ _) (readAt_unread_full _ _ _ _)

end Cert.Proof.Mem

end
-- ==== Proof.Region.lean ====
/-
  The TensorCore kernel as the pipeline runs it over its twenty points: what the scratch buffers and the output's staging
  buffer hold after each point, and the body's obligation there.
-/
module

public import proofs.«01_k».proof.Proof.Runs

@[expose] public section

set_option maxRecDepth 16384

noncomputable section

namespace Cert.Proof.Mem

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

/-- What every core's buffers hold when the region is entered. -/
abbrev Entry (F : FTy → Type) : Type := (c : Dev nD) → (b : Ref sig .tc) → Buf (Elt F) ((c.tc : Thread nD τ).loc b)

variable (V : Entry F) (Rec : Dev nD → Set (SemLoc sig × HIx 1))

/-! ## The windows' blocks -/

/-- Window `w`'s block of its array at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) (HIx 1) ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) (HIx 1) ℕ UU ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) (HIx 1) ℕ UU ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The accumulators after each point -/

/-- The accumulators after point `n`: a half's first block sets them, every other one goes on. -/
def accAt (c : Dev nD) : (n : ℕ) → n < cfg1.N → Acc F
  | 0, hn => first (grid1.coords ⟨0, hn⟩) (iblk V c 0 ⟨0, hn⟩) (iblk V c 2 ⟨0, hn⟩) (iblk V c 3 ⟨0, hn⟩) (iblk V c 4 ⟨0, hn⟩)
  | n + 1, hn =>
    if (n + 1) % 10 = 0 then
      first (grid1.coords ⟨n + 1, hn⟩) (iblk V c 0 ⟨n + 1, hn⟩) (iblk V c 2 ⟨n + 1, hn⟩) (iblk V c 3 ⟨n + 1, hn⟩) (iblk V c 4 ⟨n + 1, hn⟩)
    else later (iblk V c 0 ⟨n + 1, hn⟩) (iblk V c 3 ⟨n + 1, hn⟩) (iblk V c 4 ⟨n + 1, hn⟩) (accAt c n (by omega))

theorem accAt_first (c : Dev nD) (t : Fin cfg1.N) (h : t.val % 10 = 0) :
    accAt V c t.val t.isLt = first (grid1.coords t) (iblk V c 0 t) (iblk V c 2 t) (iblk V c 3 t) (iblk V c 4 t) := by
  obtain ⟨n, hn⟩ := t
  cases n with
  | zero => rfl
  | succ n => exact if_pos h

theorem accAt_later (c : Dev nD) (t : Fin cfg1.N) (h : ¬t.val % 10 = 0) :
    accAt V c t.val t.isLt = later (iblk V c 0 t) (iblk V c 3 t) (iblk V c 4 t) (accAt V c (t.val - 1) (by omega)) := by
  obtain ⟨n, hn⟩ := t
  cases n with
  | zero => exact absurd (Nat.zero_mod _) h
  | succ n => exact if_neg h

/-! ## The scratch buffers -/

abbrev scM_0 : Memref sig .tc .vmem S512x1 .f32 := Memref.whole cc1_scratch0
abbrev scM_1 : Memref sig .tc .vmem S512x1 .f32 := Memref.whole cc1_scratch1
abbrev scM_2 : Memref sig .tc .vmem S1x64 .f32 := Memref.whole cc1_scratch2
abbrev scM_3 : Memref sig .tc .vmem S512x1 .f32 := Memref.whole cc1_scratch3
abbrev scM_4 : Memref sig .tc .smem S1 .i32 := Memref.whole cc1_scratch4

/-- The scratch buffers at anything. -/
def scrAny (c : Dev nD) : sProp 𝕄 :=
  iprop((∃ d, owns (c.tc : Thread nD τ) scM_0 fullShare d) ∗ (∃ d, owns (c.tc : Thread nD τ) scM_1 fullShare d)
    ∗ (∃ d, owns (c.tc : Thread nD τ) scM_2 fullShare d) ∗ (∃ d, owns (c.tc : Thread nD τ) scM_3 fullShare d)
    ∗ (∃ d, owns (c.tc : Thread nD τ) scM_4 fullShare d))

/-- The scratch buffers at the accumulators. -/
def scrAt (c : Dev nD) (acc : Acc F) : sProp 𝕄 :=
  iprop(owns (c.tc : Thread nD τ) scM_0 fullShare acc.m ∗ owns (c.tc : Thread nD τ) scM_1 fullShare acc.s
    ∗ owns (c.tc : Thread nD τ) scM_2 fullShare acc.g ∗ owns (c.tc : Thread nD τ) scM_3 fullShare acc.t
    ∗ owns (c.tc : Thread nD τ) scM_4 fullShare (fun _ => acc.a))

theorem scrAny_eq (c : Dev nD) :
    (Pipeline.scopedRest (Ix := HIx 1) (Name := ℕ) (U := UU) (Lvl := ℕ) (Val := Elt F) spec1 c : sProp 𝕄) = scrAny c := by
  unfold scrAny
  rw [scopedRest1_eq]; simp only [scM_0, scM_1, scM_2, scM_3, scM_4, owns_whole]; try rfl

theorem scrAt_any (c : Dev nD) (acc : Acc F) : (scrAt c acc : sProp 𝕄) ⊢ scrAny c := by
  unfold scrAt scrAny
  iintro ⟨H0, H1, H2, H3, H4⟩
  isplitl [H0]; · iexists _; iexact H0
  isplitl [H1]; · iexists _; iexact H1
  isplitl [H2]; · iexists _; iexact H2
  isplitl [H3]; · iexists _; iexact H3
  iexists _; iexact H4

/-- Before the first point the scratch buffers hold anything, afterwards the accumulators of the point before. -/
def PhiS (c : Dev nD) : (n : ℕ) → n ≤ cfg1.N → sProp 𝕄
  | 0, _ => scrAny c
  | n + 1, hn => scrAt c (accAt V c n hn)

theorem PhiS_pos (c : Dev nD) (n : ℕ) (h : n ≤ cfg1.N) (hz : n ≠ 0) : PhiS V c n h = scrAt c (accAt V c (n - 1) (by omega)) := by
  cases n with
  | zero => exact absurd rfl hz
  | succ n => rfl

theorem PhiS_any (c : Dev nD) (n : ℕ) (h : n ≤ cfg1.N) : PhiS V c n h ⊢ scrAny c := by
  cases n with
  | zero => exact .rfl
  | succ n => exact scrAt_any c _

/-! ## The pipeline's proof data -/

/-- The proof data on core `c`: the arrays as the region finds them; after the body each input's buffer at its block and
    the output's at the loss of the accumulators so far; nothing owed. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => lossOf (iblk V c 0 t) (iblk V c 1 t) (accAt V c t.val t.isLt)
  Φ t := PhiS V c t.val (Nat.le_of_lt_succ t.isLt)
  q _ := fullShare
  owed _ := 0
  recorded _ := Rec c

theorem A_eq (c : Dev nD) (w : Fin cfg1.W) : (dats V Rec 0 c).A w = V c (Pipeline.arrRef spec1 w) := by
  dsimp only [dats]

theorem PhiS_castSucc (c : Dev nD) (t : Fin cfg1.N) :
    (dats V Rec 0 c).Φ t.castSucc = PhiS V c t.val (Nat.le_of_lt t.isLt) := by
  dsimp only [dats]; exact Pipeline.Dat.Φ_castSucc (PhiS V c) t

theorem after_0 (c : Dev nD) (t : Fin cfg1.N) : (dats V Rec 0 c).after 0 t = iblk V c 0 t := by dsimp only [dats]
theorem after_1 (c : Dev nD) (t : Fin cfg1.N) : (dats V Rec 0 c).after 1 t = iblk V c 1 t := by dsimp only [dats]
theorem after_2 (c : Dev nD) (t : Fin cfg1.N) : (dats V Rec 0 c).after 2 t = iblk V c 2 t := by dsimp only [dats]
theorem after_3 (c : Dev nD) (t : Fin cfg1.N) : (dats V Rec 0 c).after 3 t = iblk V c 3 t := by dsimp only [dats]
theorem after_4 (c : Dev nD) (t : Fin cfg1.N) : (dats V Rec 0 c).after 4 t = iblk V c 4 t := by dsimp only [dats]
theorem after_5 (c : Dev nD) (t : Fin cfg1.N) :
    (dats V Rec 0 c).after 5 t = lossOf (iblk V c 0 t) (iblk V c 1 t) (accAt V c t.val t.isLt) := by dsimp only [dats]

theorem before_0 (c : Dev nD) (t : Fin cfg1.N) (d) : (dats V Rec 0 c).before 0 t d = iblk V c 0 t :=
  before_0_of V (dats V Rec 0 c) (A_eq V Rec c 0) (after_0 V Rec c) t d
theorem before_1 (c : Dev nD) (t : Fin cfg1.N) (d) : (dats V Rec 0 c).before 1 t d = iblk V c 1 t :=
  before_1_of V (dats V Rec 0 c) (A_eq V Rec c 1) (after_1 V Rec c) t d
theorem before_2 (c : Dev nD) (t : Fin cfg1.N) (d) : (dats V Rec 0 c).before 2 t d = iblk V c 2 t :=
  before_2_of V (dats V Rec 0 c) (A_eq V Rec c 2) (after_2 V Rec c) t d
theorem before_3 (c : Dev nD) (t : Fin cfg1.N) (d) : (dats V Rec 0 c).before 3 t d = iblk V c 3 t :=
  before_3_of V (dats V Rec 0 c) (A_eq V Rec c 3) (after_3 V Rec c) t d
theorem before_4 (c : Dev nD) (t : Fin cfg1.N) (d) : (dats V Rec 0 c).before 4 t d = iblk V c 4 t :=
  before_4_of V (dats V Rec 0 c) (A_eq V Rec c 4) (after_4 V Rec c) t d

/-! ## The body's obligation at a point -/

abbrev ms_0 (t : Fin cfg1.N) : Memref sig .tc .vmem S512x64 .f32 := win1_0.stage (cfg1.slots t 0)
abbrev ms_1 (t : Fin cfg1.N) : Memref sig .tc .vmem S512x64 .f32 := win1_1.stage (cfg1.slots t 1)
abbrev ms_2 (t : Fin cfg1.N) : Memref sig .tc .vmem S1x512x1 .i32 := win1_2.stage (cfg1.slots t 2)
abbrev ms_3 (t : Fin cfg1.N) : Memref sig .tc .vmem S10000x64 .f32 := win1_3.stage (cfg1.slots t 3)
abbrev ms_4 (t : Fin cfg1.N) : Memref sig .tc .vmem S1x1x10000 .i32 := win1_4.stage (cfg1.slots t 4)
abbrev ms_5 (t : Fin cfg1.N) : Memref sig .tc .vmem S1x1x1 .f32 := win1_5.stage (cfg1.slots t 5)

/-- What the body is called with at point `t`, window by window, -/
def bodyPre (c : Dev nD) (t : Fin cfg1.N) : sProp 𝕄 :=
  iprop((dats V Rec 0 c).Φ t.castSucc ∗ (dats V Rec 0 c).owesAt none t.castSucc
    ∗ (∃ d, owns (c.tc : Thread nD τ) (ms_0 t) fullShare ((dats V Rec 0 c).before 0 t d))
    ∗ (∃ d, owns (c.tc : Thread nD τ) (ms_1 t) fullShare ((dats V Rec 0 c).before 1 t d))
    ∗ (∃ d, owns (c.tc : Thread nD τ) (ms_2 t) fullShare ((dats V Rec 0 c).before 2 t d))
    ∗ (∃ d, owns (c.tc : Thread nD τ) (ms_3 t) fullShare ((dats V Rec 0 c).before 3 t d))
    ∗ (∃ d, owns (c.tc : Thread nD τ) (ms_4 t) fullShare ((dats V Rec 0 c).before 4 t d))
    ∗ (∃ d, owns (c.tc : Thread nD τ) (ms_5 t) fullShare ((dats V Rec 0 c).before 5 t d)))

/-- and what it returns. -/
def bodyPost (c : Dev nD) (t : Fin cfg1.N) : sProp 𝕄 :=
  iprop((dats V Rec 0 c).Φ t.succ ∗ (dats V Rec 0 c).owesAt none t.succ
    ∗ (dats V Rec 0 c).leavesExact 0 t
    ∗ (dats V Rec 0 c).leavesExact 1 t
    ∗ (dats V Rec 0 c).leavesExact 2 t
    ∗ (dats V Rec 0 c).leavesExact 3 t
    ∗ (dats V Rec 0 c).leavesExact 4 t
    ∗ (dats V Rec 0 c).leavesExact 5 t)

theorem leaves_0 (c : Dev nD) (t : Fin cfg1.N) :
    (dats V Rec 0 c).leavesExact 0 t = owns (c.tc : Thread nD τ) (ms_0 t) fullShare (iblk V c 0 t) := by
  rw [← after_0 V Rec]
theorem leaves_1 (c : Dev nD) (t : Fin cfg1.N) :
    (dats V Rec 0 c).leavesExact 1 t = owns (c.tc : Thread nD τ) (ms_1 t) fullShare (iblk V c 1 t) := by
  rw [← after_1 V Rec]
theorem leaves_2 (c : Dev nD) (t : Fin cfg1.N) :
    (dats V Rec 0 c).leavesExact 2 t = owns (c.tc : Thread nD τ) (ms_2 t) fullShare (iblk V c 2 t) := by
  rw [← after_2 V Rec]
theorem leaves_3 (c : Dev nD) (t : Fin cfg1.N) :
    (dats V Rec 0 c).leavesExact 3 t = owns (c.tc : Thread nD τ) (ms_3 t) fullShare (iblk V c 3 t) := by
  rw [← after_3 V Rec]
theorem leaves_4 (c : Dev nD) (t : Fin cfg1.N) :
    (dats V Rec 0 c).leavesExact 4 t = owns (c.tc : Thread nD τ) (ms_4 t) fullShare (iblk V c 4 t) := by
  rw [← after_4 V Rec]

/-- The output's buffer is stored into at a half's last block only: elsewhere it goes back as it was found. -/
theorem leaves_5_idle (c : Dev nD) (t : Fin cfg1.N) (h : ¬t.val % 10 = 9) :
    (dats V Rec 0 c).leavesExact 5 t
      = iprop(∃ d, owns (c.tc : Thread nD τ) (ms_5 t) fullShare ((dats V Rec 0 c).before 5 t d)) := by
  unfold Dat.leavesExact
  rw [show cfg1.idle 5 (cfg1.grid.coords t) = true from by
      show (!(k1_cond3 (grid1.coords t) == 1#1)) = true
      rw [Bool.not_eq_true', beq_eq_false_iff_ne]
      exact fun e => h ((hcond3 t).mp e),
    show (cfg1.win 5).flush t = false from Bool.eq_false_iff.mpr fun e => h ((flush1_5 t).mp e)]
theorem leaves_5_last (c : Dev nD) (t : Fin cfg1.N) (h : t.val % 10 = 9) :
    (dats V Rec 0 c).leavesExact 5 t
      = owns (c.tc : Thread nD τ) (ms_5 t) fullShare (lossOf (iblk V c 0 t) (iblk V c 1 t) (accAt V c t.val t.isLt)) := by
  rw [← after_5 V Rec]; unfold Dat.leavesExact
  rw [show cfg1.idle 5 (cfg1.grid.coords t) = false from by
      show (!(k1_cond3 (grid1.coords t) == 1#1)) = false
      rw [Bool.not_eq_false', beq_iff_eq]
      exact (hcond3 t).mpr h]

set_option maxHeartbeats 4000000 in
/-- The body at any point. -/
theorem sound_body (c : Dev nD) (t : Fin cfg1.N) :
    bodyPre V Rec c t ⊢ wp frame (wpE (defs₀ (F := F)) Variants.none c.tc none) Set.univ (bodyAt1 t) (fun _ => bodyPost V Rec c t) := by
  unfold bodyPre bodyPost bodyAt1
  simp only [before_0, before_1, before_2, before_3, before_4, leaves_0, leaves_1, leaves_2, leaves_3, leaves_4]
  rw [show (dats V Rec 0 c).owesAt none t.succ = (dats V Rec 0 c).owesAt none t.castSucc from rfl]
  rw [show (dats V Rec 0 c).Φ t.succ = scrAt c (accAt V c t.val t.isLt) from rfl, PhiS_castSucc]
  by_cases h0 : t.val % 10 = 0
  · have h2 : ¬t.val % 10 = 9 := by omega
    refine (sep_mono (PhiS_any V c _ _) .rfl).trans ?_
    rw [leaves_5_idle V Rec c t h2, accAt_first V c t h0]
    unfold scrAny scrAt
    iintro ⟨⟨HS0, HS1, HS2, HS3, HS4⟩, Ho, ⟨%d0, H0⟩, ⟨%d1, H1⟩, ⟨%d2, H2⟩, ⟨%d3, H3⟩, ⟨%d4, H4⟩, ⟨%d5, H5⟩⟩
    iapply (run_first c (grid1.coords t) _ _ _ _ _ _ _ _ _ _ _ _ _ _ _ _ _ _ _ _ _ _ ((hcond1 t).mpr h0) ((hcond2 t).mpr h0)
      (fun h => h2 ((hcond3 t).mp h)) (iblk V c 0 t) (iblk V c 1 t) (iblk V c 2 t) (iblk V c 3 t) (iblk V c 4 t)
      ((dats V Rec 0 c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    rw [PhiS_pos V c _ _ hz]
    by_cases h2 : t.val % 10 = 9
    · rw [leaves_5_last V Rec c t h2, accAt_later V c t h0]
      unfold scrAt
      iintro ⟨⟨HS0, HS1, HS2, HS3, HS4⟩, Ho, ⟨%d0, H0⟩, ⟨%d1, H1⟩, ⟨%d2, H2⟩, ⟨%d3, H3⟩, ⟨%d4, H4⟩, ⟨%d5, H5⟩⟩
      iapply (run_last c (grid1.coords t) _ _ _ _ _ _ _ _ _ _ _ _ _ _ _ _ _ _ _ _ _ _ (fun h => h0 ((hcond1 t).mp h))
        (fun h => h0 ((hcond2 t).mp h)) ((hcond3 t).mpr h2) (iblk V c 0 t) (iblk V c 1 t) (iblk V c 2 t) (iblk V c 3 t) (iblk V c 4 t)
        (accAt V c (t.val - 1) (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      iexact H5
    · rw [leaves_5_idle V Rec c t h2, accAt_later V c t h0]
      unfold scrAt
      iintro ⟨⟨HS0, HS1, HS2, HS3, HS4⟩, Ho, ⟨%d0, H0⟩, ⟨%d1, H1⟩, ⟨%d2, H2⟩, ⟨%d3, H3⟩, ⟨%d4, H4⟩, ⟨%d5, H5⟩⟩
      iapply (run_mid c (grid1.coords t) _ _ _ _ _ _ _ _ _ _ _ _ _ _ _ _ _ _ _ _ _ _ (fun h => h0 ((hcond1 t).mp h))
        (fun h => h0 ((hcond2 t).mp h)) (fun h => h2 ((hcond3 t).mp h)) (iblk V c 0 t) (iblk V c 1 t) (iblk V c 2 t) (iblk V c 3 t) (iblk V c 4 t)
        (accAt V c (t.val - 1) (by omega)) ((dats V Rec 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body there. -/
theorem defs₀_row (t : Fin cfg1.N) :
    defs₀ (F := F) .tc cfg1.body (cfg1.bodyArgs t (cfg1.slots t)) = bodyAt1 t := by
  rfl

/-- The pipeline's obligation of the body, at every point. -/
theorem body_obligation (c : Dev nD) : BodyObligation (dats (F := F) V Rec 0 c) (defs₀ (F := F)) Variants.none none Set.univ := fun t => by
  rw [bigSep_W1, bigSep_W1, defs₀_row]
  exact triple_restated (sound_body V Rec c t) rfl .rfl fun _ => .rfl

end Cert.Proof.Mem

end
-- ==== Proof.Main.lean ====
/-
  The TensorCore's program: the SparseCore call, the reshapes, the kernel region and the sum of its two results; and
  the run of the whole program from any memory whose targets name samples.
-/
module

public import proofs.«01_k».proof.Proof.Task
public import proofs.«01_k».proof.Proof.Region

@[expose] public section

noncomputable section

namespace Cert.Proof.Mem

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Tactic

variable {F : FTy → Type} [FloatOps F] [Named F]

local notation "𝕄" => MT nD τ sig (HIx 1) (Elt F) ℕ UU ℕ

/-! ## The kernel region -/

/-- The kernel reads no table ahead of its windows. -/
abbrev adm (p : Fin 1) : (pcfgs (F := F) p).Adm := (cfgs p).toPCfg_adm

section Region

variable (V : Entry F)

/-- The waits the TensorCore may have recorded once the SparseCore call is over. -/
def Rec (c : Dev nD) : Set (SemLoc sig × HIx 1) := {p | (K (F := F)).lev ((c.tc : Thread nD τ), p.1) p.2 ≤ 8 * 1}

/-- The contents of the buffers after the region: the result's array as the write-backs leave it, the others as before. -/
def exitV (c : Dev nD) (b : Ref sig .tc) : Buf (Elt F) ((c.tc : Thread nD τ).loc b) :=
  if h : b = main_v3 then h ▸ (dats V (Rec (F := F)) 0 c).arrAt 5 cfg1.N else V c b

theorem exitV_v3 (c : Dev nD) : exitV V c main_v3 = (dats V (Rec (F := F)) 0 c).arrAt 5 cfg1.N := by
  unfold exitV; rw [dif_pos rfl]
theorem exitV_ne (c : Dev nD) (b : Ref sig .tc) (h : b ≠ main_v3) : exitV V c b = V c b := by
  unfold exitV; rw [dif_neg h]

/-- Every window's array is left at those contents. -/
theorem final_eq (c : Dev nD) (w : Fin cfg1.W) :
    (dats V (Rec (F := F)) 0 c).arrAt w cfg1.N = exitV V c (Pipeline.arrRef spec1 w) := by
  fin_cases w
  · exact ((dats V (Rec (F := F)) 0 c).arrAt_in 0 rfl _).trans ((A_eq V _ c 0).trans (exitV_ne V c main_arg0 (by decide)).symm)
  · exact ((dats V (Rec (F := F)) 0 c).arrAt_in 1 rfl _).trans ((A_eq V _ c 1).trans (exitV_ne V c main_arg1 (by decide)).symm)
  · exact ((dats V (Rec (F := F)) 0 c).arrAt_in 2 rfl _).trans ((A_eq V _ c 2).trans (exitV_ne V c main_v1 (by decide)).symm)
  · exact ((dats V (Rec (F := F)) 0 c).arrAt_in 3 rfl _).trans ((A_eq V _ c 3).trans (exitV_ne V c main_arg6 (by decide)).symm)
  · exact ((dats V (Rec (F := F)) 0 c).arrAt_in 4 rfl _).trans ((A_eq V _ c 4).trans (exitV_ne V c main_v2 (by decide)).symm)
  · exact (exitV_v3 V c).symm

/-- The buffers no window reads or writes are left as they were. -/
theorem rest_eq (c : Dev nD) : (Pipeline.unscopedRest spec1 c (V c) : sProp 𝕄) = Pipeline.unscopedRest spec1 c (exitV V c) := by
  rw [unscopedRest1_eq, unscopedRest1_eq, exitV_ne V c main_arg2 (by decide), exitV_ne V c main_arg3 (by decide),
    exitV_ne V c main_arg4 (by decide), exitV_ne V c main_arg5 (by decide), exitV_ne V c main_arg7 (by decide),
    exitV_ne V c main_v0 (by decide), exitV_ne V c main_v4 (by decide), exitV_ne V c main_cst (by decide), exitV_ne V c main_v5 (by decide)]

/-- The arrays after the last point and the other buffers are all the buffers at those contents. -/
theorem join_exit (c : Dev nD) :
    iprop((dats V (Rec (F := F)) 0 c).arrays ((dats V (Rec (F := F)) 0 c).arrAt · cfg1.N) ∗ Pipeline.unscopedRest spec1 c (V c))
      ⊢ (unscopedBufs c (exitV V c) : sProp 𝕄) := by
  rw [Pipeline.unscopedBufs_split cfgs 0 launch1.win.arr_unscoped launch1.win.arr_inj c (exitV V c),
    Pipeline.arrays_eq cfgs (dats V (Rec (F := F))) 0 c launch1.arr_whole ((dats V (Rec (F := F)) 0 c).share_full fun _ => rfl)]
  exact BI.sep_mono (Entails.of_eq (bigSep_congr fun w _ => by rw [final_eq])) (Entails.of_eq (rest_eq V c))

/-- A core that owes nothing, its recorded waits at most the levels of the first call. -/
def owesNone (c : Dev nD) : sProp 𝕄 :=
  iprop(∃ W, ⌜(K (F := F)).WBelow (c.tc : Thread nD τ) W (8 * 1)⌝ ∗ owes (c.tc : Thread nD τ) 0 W)

set_option backward.isDefEq.respectTransparency.types false in
/-- The region: from all the buffers at `V` to all of them at `exitV V`. -/
def reg : Pipeline.RegionSeg (pcfgs (F := F)) adm (dats V (Rec (F := F))) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V (Rec (F := F)) c).loose
  hwaits := Pipeline.hwaits_of_owed_zero _ _ _ _ (K (F := F)).L (K (F := F)).lev 0 fun _ _ => rfl
  pre c := iprop(unscopedBufs c (V c) ∗ owesNone (F := F) c)
  post c := iprop(unscopedBufs c (exitV V c) ∗ owesNone (F := F) c)
  X _ := iprop(emp)
  Y _ := iprop(emp)
  Z c := Pipeline.unscopedRest spec1 c (V c)
  hentry c := by
    have hsplit := Pipeline.arrays_of_unscopedBufs (pcfgs (F := F)) adm (dats V (Rec (F := F))) launch1.win launch1.arr_whole c
      ((dats V (Rec (F := F)) 0 c).share_full fun _ => rfl) (V c) (A_eq V (Rec (F := F)) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesNone
      icases HO with ⟨%W, %hW, HO⟩; iexists W; isplitr
      · ipureintro; exact fun p hp => Or.inl (hW p hp)
      iexact HO
    isplitr; · iempintro
    iexact Hr
  hin c := by
    rw [show (dats V (Rec (F := F)) 0 c).Φ 0 = scrAny c from rfl, ← scrAny_eq]
    iintro ⟨-, -, Hr⟩; iexact Hr
  hout c := by
    rw [Pipeline.ownSems0_none]
    refine (PhiS_any V c _ (Nat.le_refl _)).trans ?_
    rw [← scrAny_eq]
    iintro Hr
    isplitr; · iempintro
    isplitr; · iempintro
    iexact Hr
  hexit c := by
    iintro ⟨Ha, HO, -, Hr⟩
    ihave H := (join_exit V c) $$ [Ha Hr]
    · isplitl [Ha]; · iexact Ha
      iexact Hr
    imodintro
    isplitl [H]; · iexact H
    unfold Pipeline.Dat.owesAt Pipeline.owesWithin owesNone
    icases HO with ⟨%W, %hW, HO⟩; iexists W; isplitr
    · ipureintro
      intro p hp
      rcases hW hp with h | h
      · exact h
      · obtain ⟨w, s, rfl⟩ := h
        exact Nat.zero_le _
    iexact HO

end Region

/-! ## The buffers along @main -/

section Run

variable (m : (ℓ : Loc nD τ sig) → Buf (Elt F) ℓ) (ρ : Dev nD → PrngReg)

/-- At the launch, -/
abbrev V0 (d : Dev nD) : Valuation τ sig (Elt F) := fun b => m (d, b)
/-- after the SparseCore call, -/
def V1 (d : Dev nD) : Valuation τ sig (Elt F) := Function.update (V0 m d) (Proc.devRef .tc main_v0) (gathered m d)

abbrev op1 : HloOp τ sig (Elt F) := StableHlo.reshape main_v0 main_v1 (rfl : (.i32 : EltTy) = .i32) shapeCasts_S1024_S2x512x1
abbrev op2 : HloOp τ sig (Elt F) := StableHlo.reshape main_arg7 main_v2 (rfl : (.i32 : EltTy) = .i32) shapeCasts_S100000_S10x1x10000
abbrev op3 : HloOp τ sig (Elt F) := StableHlo.reshape main_v3 main_v4 (rfl : (.f32 : EltTy) = .f32) shapeCasts_S2x1x1_S2
abbrev op4 : HloOp τ sig (Elt F) := StableHlo.nullary main_cst (constant S_ .f32 0x00000000#32)
abbrev op5 : HloOp τ sig (Elt F) := StableHlo.binary main_v4 main_cst main_v5
  ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F))

/-- before the region, -/
def V2 (d : Dev nD) : Valuation τ sig (Elt F) := op2.result (op1.result (V1 m d))
/-- the same by the core's references, -/
def E2 : Entry F := fun d b => V2 m d (Proc.devRef .tc b)
/-- after the region, -/
def V3 (d : Dev nD) : Valuation τ sig (Elt F) :=
  Function.update (V2 m d) (Proc.devRef .tc main_v3) ((dats (E2 m) (Rec (F := F)) 0 d).arrAt 5 cfg1.N)
/-- and at the end. -/
def V4 (d : Dev nD) : Valuation τ sig (Elt F) := op5.result (op4.result (op3.result (V3 m d)))

theorem exit_eq (d : Dev nD) : (exitV (E2 m) d) = fun b : Ref sig .tc => V3 m d (Proc.devRef .tc b) := by
  funext b
  by_cases h : b = main_v3
  · subst h; rw [exitV_v3]; unfold V3; rw [Function.update_self]
  · rw [exitV_ne _ _ _ h]; unfold V3; rw [Function.update_of_ne (StableHlo.devRef_ne_of_ne h)]; rfl

abbrev ucs : Finset (DevRef τ sig) := Pipeline.ucRefs τ sig

/-- The three buffers of the SparseCore call. -/
def callRefs : Finset (DevRef τ sig) := {Proc.devRef .tc main_arg2, Proc.devRef .tc main_arg7, Proc.devRef .tc main_v0}

theorem callRefs_sub : callRefs ⊆ ucs := by
  intro b hb
  unfold callRefs at hb
  rw [Finset.mem_insert, Finset.mem_insert, Finset.mem_singleton] at hb
  rcases hb with rfl | rfl | rfl <;> exact Finset.mem_filter.mpr ⟨StableHlo.devRef_mem_tcRefs _, by decide⟩

/-- Held, they are the three buffers whole. -/
theorem held_call (d : Dev nD) (W : Valuation τ sig (Elt F)) :
    (StableHlo.held (d.tc : Thread nD τ) callRefs W : sProp 𝕄)
      = iprop((tLoc d ↦{fullShare} W (Proc.devRef .tc main_arg2)) ∗ (lLoc d ↦{fullShare} W (Proc.devRef .tc main_arg7)) ∗ oLoc d ↦{fullShare} W (Proc.devRef .tc main_v0)) := by
  unfold StableHlo.held callRefs
  rw [SparseCore.bigSep_insert' (by decide), SparseCore.bigSep_insert' (by decide), bigSep_singleton]

/-- All the buffers before the call: the call's three, and the rest; -/
theorem before_call (d : Dev nD) :
    (unscopedBufs d (fun b => m ((d.tc : Thread nD τ).loc b)) : sProp 𝕄)
      = iprop(((tLoc d ↦{fullShare} m (tLoc d)) ∗ (lLoc d ↦{fullShare} m (lLoc d)) ∗ oLoc d ↦{fullShare} m (oLoc d))
          ∗ StableHlo.held (d.tc : Thread nD τ) (ucs \ callRefs) (V0 m d)) := by
  rw [show (unscopedBufs d (fun b => m ((d.tc : Thread nD τ).loc b)) : sProp 𝕄) = StableHlo.held (d.tc : Thread nD τ) ucs (V0 m d)
      from Pipeline.unscopedBufs_held d (V0 m d),
    StableHlo.held_sub_split (d.tc : Thread nD τ) callRefs_sub, held_call]

/-- and after it. -/
theorem after_call (d : Dev nD) :
    iprop(((tLoc d ↦{fullShare} m (tLoc d)) ∗ (lLoc d ↦{fullShare} m (lLoc d)) ∗ oLoc d ↦{fullShare} gathered m d)
          ∗ StableHlo.held (d.tc : Thread nD τ) (ucs \ callRefs) (V0 m d))
      = (StableHlo.held (d.tc : Thread nD τ) ucs (V1 m d) : sProp 𝕄) := by
  have hne : ∀ r : Ref sig .tc, r ≠ main_v0 → V1 m d (Proc.devRef .tc r) = V0 m d (Proc.devRef .tc r) := fun r h => by
    unfold V1; rw [Function.update_of_ne (StableHlo.devRef_ne_of_ne h)]
  rw [StableHlo.held_sub_split (d.tc : Thread nD τ) callRefs_sub, held_call, hne main_arg2 (by decide), hne main_arg7 (by decide),
    show V1 m d (Proc.devRef .tc main_v0) = gathered m d from by unfold V1; rw [Function.update_self],
    StableHlo.held_congr (d.tc : Thread nD τ) (S := ucs \ callRefs) (V := V1 m d) (V' := V0 m d) (fun b hb => by
      unfold V1
      rw [Function.update_of_ne]
      rintro rfl
      exact (Finset.mem_sdiff.mp hb).2 (by unfold callRefs; simp))]

/-! ## The ghost state -/

/-- The launch element: the handshakes' rounds, the pipeline's, and no counter. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch gives the TensorCore of `d`: the pipeline's rounds. -/
def G (d : Dev nD) : sProp 𝕄 :=
  iprop(Pipeline.cellsGhost (Pipeline.pin (pcfgs (F := F)) adm) EP 0 d ∗ Pipeline.toksInit (Pipeline.pin (pcfgs (F := F)) adm) EP 0 d)

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost cfgs EP cellOf_inj) $$ HP with ⟨Hc, Ht⟩
  imodintro
  isplitl [HH]; · iexact HH
  isplitl
  · rw [show (bigSep Finset.univ fun d : Dev nD => G (F := F) d)
        = iprop((bigSep Finset.univ fun d : Dev nD => Pipeline.cellsGhost (Pipeline.pin (pcfgs (F := F)) adm) EP 0 d)
          ∗ bigSep Finset.univ fun d : Dev nD => Pipeline.toksInit (Pipeline.pin (pcfgs (F := F)) adm) EP 0 d) from bigSep_sep' .. ]
    isplitl [Hc]
    · rw [show (bigSep Finset.univ fun d : Dev nD => Pipeline.cellsGhost (Pipeline.pin (pcfgs (F := F)) adm) EP 0 d)
        = bigSep Finset.univ fun c : Dev nD => bigSep Finset.univ fun p => Pipeline.cellsGhost cfgs EP p c from
          bigSep_congr fun c _ => (bigSep_univ_of_subsingleton (0 : Fin 1) (Φ := fun p : Fin 1 => (Pipeline.cellsGhost cfgs EP p c : sProp 𝕄))).symm]
      iexact Hc
    · rw [show (bigSep Finset.univ fun d : Dev nD => Pipeline.toksInit (Pipeline.pin (pcfgs (F := F)) adm) EP 0 d)
        = bigSep Finset.univ fun c : Dev nD => bigSep Finset.univ fun p => Pipeline.toksInit cfgs EP p c from
          bigSep_congr fun c _ => (bigSep_univ_of_subsingleton (0 : Fin 1) (Φ := fun p : Fin 1 => (Pipeline.toksInit cfgs EP p c : sProp 𝕄))).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (show (BI.emp : sProp 𝕄) ⊢ bigSep Finset.univ (fun _ : Thread nD τ => (BI.emp : sProp 𝕄)) from by rw [BI.bigSep_emp_const])
  iempintro

/-! ## @main -/

/-- What the TensorCore ends with: every buffer at its final contents. -/
def FIN (d : Dev nD) : sProp 𝕄 := StableHlo.held (d.tc : Thread nD τ) ucs (V4 m d)

set_option backward.isDefEq.respectTransparency.types false in
/-- The region inside @main: from the buffers before it to the buffers after. -/
theorem wp_region (κ : GSem nD τ sig → ℕ) (d : Dev nD) (Φ : PUnit → sProp 𝕄) :
    iprop((iprop(boundary (d.tc : Thread nD τ) ∗ StableHlo.held (d.tc : Thread nD τ) ucs (V3 m d) ∗ owesNone (F := F) d) -∗ Φ ⟨⟩)
        ∗ boundary (d.tc : Thread nD τ) ∗ (StableHlo.held (d.tc : Thread nD τ) ucs (V2 m d) ∗ owesNone (F := F) d)
        ∗ (K (F := F)).ctx EH (P m) κ ∗ G (F := F) d)
      ⊢ wp frame (wpE ((K (F := F)).defs (D (F := F))) 𝒱 (SparseCore.T d) none) Set.univ
          (Prog.lift (.customCall (SparseCore.inner (Pipeline.entry 0)) ())) Φ := by
  have hreg := Pipeline.RegionSeg.wp (pcfgs (F := F)) adm (dats (E2 m) (Rec (F := F))) none cellOf_inj EP defs₀ 𝒱₀ (K (F := F)).L (K (F := F)).lev
    (reg (E2 m)) d none (fun _ h => nomatch h) (fun _ => .ret ⟨⟩) Φ
  refine .trans ?_ (hreg.trans ((K (F := F)).wp_liftProg (D (F := F)) 𝒱 (SparseCore.T d) Set.univ none _ Φ))
  rw [show (reg (E2 m)).pre d = iprop(unscopedBufs d (E2 m d) ∗ owesNone (F := F) d) from rfl,
    show (reg (E2 m)).post d = iprop(unscopedBufs d (exitV (E2 m) d) ∗ owesNone (F := F) d) from rfl, exit_eq,
    show (unscopedBufs d (E2 m d) : sProp 𝕄) = StableHlo.held (d.tc : Thread nD τ) ucs (V2 m d) from Pipeline.unscopedBufs_held d (V2 m d),
    show (unscopedBufs d (fun b : Ref sig .tc => V3 m d (Proc.devRef .tc b)) : sProp 𝕄) = StableHlo.held (d.tc : Thread nD τ) ucs (V3 m d)
      from Pipeline.unscopedBufs_held d (V3 m d)]
  unfold G
  iintro ⟨Hk, Hb, Hpre, #Hctx, Hc, Ht⟩
  isplitl [Hk]
  · iintro H
    rw [wp_ret]; imodintro
    iapply Hk; iexact H
  isplitl [Hb]; · iexact Hb
  isplitl [Hpre]; · iexact Hpre
  isplitr; · iapply (SparseCore.Cfg.ctx_levAts κ); iexact Hctx
  isplitl [Hc] <;> iassumption

theorem sub1 : (op1 (F := F)).bufs ⊆ ucs := Pipeline.sub_ucRefs _ (by simp)
theorem sub2 : (op2 (F := F)).bufs ⊆ ucs := Pipeline.sub_ucRefs _ (by simp)
theorem sub3 : (op3 (F := F)).bufs ⊆ ucs := Pipeline.sub_ucRefs _ (by simp)
theorem sub4 : (op4 (F := F)).bufs ⊆ ucs := Pipeline.sub_ucRefs _ (by simp)
theorem sub5 : (op5 (F := F)).bufs ⊆ ucs := Pipeline.sub_ucRefs _ (by simp)

/-- After the only call the TensorCore owes nothing more. -/
theorem Otc_one (d : Dev nD) : (K (F := F)).Otc d 1 = 0 := by
  unfold SparseCore.Cfg.Otc; simp

/-- What else the TensorCore holds for the handshakes once the call is over. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The handshakes' state after the call: nothing owed, and the rest. -/
theorem tcSt_one (d : Dev nD) : ((K (F := F)).tcSt EH d 1 : sProp 𝕄) = iprop(owesNone (F := F) d ∗ tcRest (F := F) d) := by
  unfold SparseCore.Cfg.tcSt owesNone
  rw [Otc_one]
  rfl

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [before_call]
  simp only [main, wp_bind, wp_pure]
  iintro ⟨#Hctx, Hst, ⟨Hb, ⟨Hcall, Hrest⟩, Hts, -⟩, HG⟩
  iapply ((K (F := F)).wp_run (D (F := F)) 𝒱 (EH := EH) (P := P m) κ d 0) $$ [Hst Hcall Hrest Hb Hts HG]
  isplitr; · iexact Hctx
  isplitl [Hst]; · iexact Hst
  isplitl [Hcall]; · rw [st_eq]; iexact Hcall
  iintro ⟨Hst, Hdn⟩
  ihave Hcall := (Entails.of_eq (dn_eq m d)) $$ Hdn
  ihave Hheld := (Entails.of_eq (after_call m d)) $$ [Hcall Hrest]
  · isplitl [Hcall]; · iexact Hcall
    iexact Hrest
  iapply (StableHlo.wp_hlo_within 𝒱 (SparseCore.T d) none Set.univ (sub1 (F := F))) $$ [Hb Hheld]
  · isplitl [Hb] <;> iassumption
  iintro ⟨Hb, Hheld⟩
  rw [wp_ret]; imodintro
  iapply (StableHlo.wp_hlo_within 𝒱 (SparseCore.T d) none Set.univ (sub2 (F := F))) $$ [Hb Hheld]
  · isplitl [Hb] <;> iassumption
  iintro ⟨Hb, Hheld⟩
  rw [wp_ret]; imodintro
  ihave Hst := (Entails.of_eq (show ((K (F := F)).tcSt EH d ((0 : Fin 1).val + 1) : sProp 𝕄) = iprop(owesNone (F := F) d ∗ tcRest (F := F) d) from tcSt_one d)) $$ Hst
  icases Hst with ⟨HO, Hst⟩
  iapply (wp_region m κ d _) $$ [Hb Hheld HO Hst HG Hts]
  isplitl [Hst Hts]
  · iintro ⟨Hb, Hheld, HO⟩
    iapply (StableHlo.wp_hlo_within 𝒱 (SparseCore.T d) none Set.univ (sub3 (F := F))) $$ [Hb Hheld]
    · isplitl [Hb] <;> iassumption
    iintro ⟨Hb, Hheld⟩
    rw [wp_ret]; imodintro
    iapply (StableHlo.wp_hlo_within 𝒱 (SparseCore.T d) none Set.univ (sub4 (F := F))) $$ [Hb Hheld]
    · isplitl [Hb] <;> iassumption
    iintro ⟨Hb, Hheld⟩
    rw [wp_ret]; imodintro
    iapply (StableHlo.wp_hlo_within 𝒱 (SparseCore.T d) none Set.univ (sub5 (F := F))) $$ [Hb Hheld]
    · isplitl [Hb] <;> iassumption
    iintro ⟨Hb, Hheld⟩
    rw [wp_ret]; imodintro
    imodintro
    unfold FIN V4
    isplitl [HO Hst]
    · rw [tcSt_one]
      isplitl [HO] <;> iassumption
    isplitl [Hheld]; · iexact Hheld
    isplitl [Hb] <;> iassumption
  isplitl [Hb]; · iexact Hb
  isplitl [Hheld HO]
  · isplitl [Hheld]; · unfold V2; iexact Hheld
    iexact HO
  isplitr; · iexact Hctx
  iexact HG

/-- Every buffer of the core at its final contents. -/
def fq (d : Dev nD) (s' : Phys nD τ sig (Elt F)) : Prop := ∀ b ∈ ucs, s'.mem.mem (d, b) = V4 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucs) $$ [HSI H]
  · isplitl [HSI]; · iexact HSI
    iexact H
  ipureintro
  exact h

/-- What holds of a final state. -/
def QC : PUnit × MemSt nD τ sig (Elt F) → Prop := fun r => (∀ d : Dev nD, ∀ b ∈ ucs, r.2.mem (d, b) = V4 m d b) ∧ r.2.sem = fun _ => 0

/-- From any memory whose targets name samples, every fair run of the program ends with every buffer of the
    TensorCores at its final contents and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Run

end Cert.Proof.Mem

end
-- ==== Proof.Pre.lean ====
/-
  What the preconditions say: the targets name samples, the labels name classes, and — where that is asked — the
  features and the memory are finite and no row that is normalised is zero.
-/
module

public import proofs.«01_k».proof.Defs
public import proofs.«01_k».proof.Proof.Gen.Pre_ranges
public import proofs.«01_k».proof.Proof.Gen.Pre_ranges_finite
public import Idealize.ShloMosaic.Lib.ReduceAll
public import Idealize.ShloMosaic.Lib.WordCmp
public import Idealize.ShloMosaic.Lib.Pointwise

@[expose] public section

noncomputable section

namespace Cert.Proof.Pre

open Idealize.ShloMosaic

instance : Subsingleton (Cert.Pre_ranges.S_).Idx := ⟨fun a b => funext fun i => i.elim0⟩
instance : Subsingleton (Cert.Pre_ranges_finite.S_).Idx := ⟨fun a b => funext fun i => i.elim0⟩

/-- Two words of one bit whose conjunction is one are both one. -/
theorem both {c d : BitVec 1} (h : IntOp.andi c d = 1#1) : c = 1#1 ∧ d = 1#1 := IntOp.andi_eq_one.1 h

/-- A word at least zero and below `k`, signed, is below `k` as a natural number. -/
theorem lt_of_cmp {k : Nat} (hk : k < 2 ^ 31) (x : BitVec 32) (h0 : IntOp.cmpi .sge x 0#32 = 1#1)
    (h1 : IntOp.cmpi .slt x (BitVec.ofNat 32 k) = 1#1) : x.toNat < k := by
  have h := Idealize.ShloMosaic.WordCmp.andi_sge_zero_slt_ofNat (w := 32) hk x
  rw [h0, h1] at h
  by_contra hc
  rw [decide_eq_false hc] at h
  exact absurd h (by decide)

section Ranges

open Cert.Pre_ranges Cert.Pre_ranges.Facts

variable {F : FTy → Type} [FloatOps F]

/-- The targets name samples and the labels classes. -/
theorem ranges (x0 x1 x2 x3 x4 x5 x6 x7) (h : Cert.Pre_ranges.fn (F := F) x0 x1 x2 x3 x4 x5 x6 x7 = fun _ => 1#1) :
    (∀ j, (x2 j).toNat < 100000) ∧ ∀ j, (x7 j).toNat < 5000 := by
  have e := congrFun h (fun i => i.elim0)
  obtain ⟨e, h4⟩ := both e
  obtain ⟨e, h3⟩ := both e
  obtain ⟨h1, h2⟩ := both e
  exact ⟨fun j => lt_of_cmp (by norm_num) _ (Host.reduce_andi_all _ _ _ _ _ h1 j) (Host.reduce_andi_all _ _ _ _ _ h2 j),
    fun j => lt_of_cmp (by norm_num) _ (Host.reduce_andi_all _ _ _ _ _ h3 j) (Host.reduce_andi_all _ _ _ _ _ h4 j)⟩

end Ranges

section Finite

open Cert.Pre_ranges_finite Cert.Pre_ranges_finite.Facts

/-- An extended real whose absolute value is below infinity is finite. -/
theorem finite_of_cmp (x : Ideal .f32) (h : FloatOps.cmpf (F := Ideal) (φ := .f32) .olt (FloatOps.hostAbsf x) (FloatOps.ofBits .f32 0x7F800000#32) = 1#1) :
    (x : EReal) ≠ ⊤ ∧ (x : EReal) ≠ ⊥ := by
  have hinf : FloatOps.ofBits (F := Ideal) .f32 0x7F800000#32 = (⊤ : EReal) := by
    show Ideal.ofBits .f32 0x7F800000#32 = _
    simp [Ideal.ofBits, Ideal.ieee]
  rw [hinf] at h
  have h' : max (x : EReal) (-x) < ⊤ := by
    by_contra hc
    have : FloatOps.cmpf (F := Ideal) (φ := .f32) .olt (FloatOps.hostAbsf x) (⊤ : EReal) = 0#1 := by
      show BitVec.ofBool (decide (max (x : EReal) (-x) < ⊤)) = 0#1
      rw [decide_eq_false hc]; rfl
    rw [this] at h; exact absurd h (by decide)
  rw [max_lt_iff] at h'
  refine ⟨h'.1.ne, fun hb => ?_⟩
  rw [hb] at h'
  exact absurd h'.2 (by simp)

/-- A comparison above zero that holds. -/
theorem pos_of_cmp (x : Ideal .f32) (h : FloatOps.cmpf (F := Ideal) (φ := .f32) .ogt x (FloatOps.ofBits .f32 0x00000000#32) = 1#1) : (0 : EReal) < x := by
  have h0 : FloatOps.ofBits (F := Ideal) .f32 0x00000000#32 = (0 : EReal) := by
    show Ideal.ofBits .f32 0x00000000#32 = _
    simp [Ideal.ofBits, Ideal.ieee]
  rw [h0] at h
  by_contra hc
  have : FloatOps.cmpf (F := Ideal) (φ := .f32) .ogt x (0 : EReal) = 0#1 := by
    show BitVec.ofBool (decide ((0 : EReal) < x)) = 0#1
    rw [decide_eq_false hc]; rfl
  rw [this] at h; exact absurd h (by decide)

/-- A row's sum of squares, as the precondition computes it. -/
theorem sumsq (x : FVec Ideal S1024x64 .f32) (i : Fin 1024) :
    Host.reduceAdd (mulf x x) (constant (F := Ideal) S_ .f32 0x00000000#32) reducesTo_S1024x64_S1024_d1 h_S_ (ix1 i)
      = ∑ k : Fin 64, (x (ix2 i k) : EReal) * x (ix2 i k) := by
  pointwise []

/-- The same two; every feature and memory entry is finite; no row of the features or of the second argument is zero. -/
theorem ranges_finite (x0 x1 x2 x3 x4 x5 x6 x7) (h : Cert.Pre_ranges_finite.fn (F := Ideal) x0 x1 x2 x3 x4 x5 x6 x7 = fun _ => 1#1) :
    (∀ j, (x2 j).toNat < 100000) ∧ (∀ j, (x7 j).toNat < 5000)
      ∧ (∀ i, (x0 i : EReal) ≠ ⊤ ∧ (x0 i : EReal) ≠ ⊥) ∧ (∀ i, (x6 i : EReal) ≠ ⊤ ∧ (x6 i : EReal) ≠ ⊥)
      ∧ (∀ i : Fin 1024, 0 < ∑ k : Fin 64, (x0 (ix2 i k) : EReal) * x0 (ix2 i k))
      ∧ ∀ i : Fin 1024, 0 < ∑ k : Fin 64, (x1 (ix2 i k) : EReal) * x1 (ix2 i k) := by
  have e := congrFun h (fun i => i.elim0)
  unfold Cert.Pre_ranges_finite.fn Cert.Pre_ranges_finite.fn_part1 Cert.Pre_ranges_finite.fn_part2 at e
  obtain ⟨e, h8⟩ := both e
  obtain ⟨e, h7⟩ := both e
  obtain ⟨e, h6⟩ := both e
  obtain ⟨e, h5⟩ := both e
  obtain ⟨e, h4⟩ := both e
  obtain ⟨e, h3⟩ := both e
  obtain ⟨h1, h2⟩ := both e
  exact ⟨fun j => lt_of_cmp (by norm_num) _ (Host.reduce_andi_all _ _ _ _ _ h1 j) (Host.reduce_andi_all _ _ _ _ _ h2 j),
    fun j => lt_of_cmp (by norm_num) _ (Host.reduce_andi_all _ _ _ _ _ h3 j) (Host.reduce_andi_all _ _ _ _ _ h4 j),
    fun i => finite_of_cmp _ (Host.reduce_andi_all _ _ _ _ _ h5 i), fun i => finite_of_cmp _ (Host.reduce_andi_all _ _ _ _ _ h6 i),
    fun i => (pos_of_cmp _ (Host.reduce_andi_all _ _ _ _ _ h7 (ix1 i))).trans_eq (sumsq x0 i),
    fun i => (pos_of_cmp _ (Host.reduce_andi_all _ _ _ _ _ h8 (ix1 i))).trans_eq (sumsq x1 i)⟩

end Finite

end Cert.Proof.Pre

end
-- ==== Proof.Frame.lean ====
/-
  The frame of the kernel with its constants named: every fair run ends with the arguments unchanged and every semaphore at zero.
-/
module

public import proofs.«01_k».proof.Proof.Main
public import proofs.«01_k».proof.Proof.Pre

@[expose] public section

noncomputable section

namespace Cert.Proof.Mem

open Cert.KernelIdeal Cert.KernelIdeal.Gen

open Idealize.ShloMosaic
open Idealize.SL.Sem

variable {F : FTy → Type} [FloatOps F] [Named F]
variable (m : (ℓ : Loc nD τ sig) → Buf (Elt F) ℓ)

/-- A buffer that is neither the gathered labels, nor a reshape of them or of the labels, nor a result of the region or
    of what follows it, is left as it was. -/
theorem V4_arg (d : Dev nD) (r : Ref sig .tc) (h0 : r ≠ main_v0) (h1 : r ≠ main_v1) (h2 : r ≠ main_v2) (h3 : r ≠ main_v3)
    (h4 : r ≠ main_v4) (h5 : r ≠ main_cst) (h6 : r ≠ main_v5) : V4 m d (Proc.devRef .tc r) = m ((d.tc : Thread nD τ).loc r) := by
  unfold V4
  rw [StableHlo.binary_result_ne _ _ _ _ _ _ _ _ h6, StableHlo.nullary_result_ne _ _ _ _ h5, StableHlo.reshape_result_ne _ _ _ _ _ _ _ h4]
  unfold V3
  rw [Function.update_of_ne (StableHlo.devRef_ne_of_ne h3)]
  unfold V2
  rw [StableHlo.reshape_result_ne _ _ _ _ _ _ _ h2, StableHlo.reshape_result_ne _ _ _ _ _ _ _ h1]
  unfold V1
  rw [Function.update_of_ne (StableHlo.devRef_ne_of_ne h0)]

/-- A reference of the core that is not scoped is among its buffers. -/
theorem mem_ucs (r : Ref sig .tc) (h : (Proc.devRef .tc r : DevRef τ sig).isScoped = false) : (Proc.devRef .tc r : DevRef τ sig) ∈ ucs :=
  Finset.mem_filter.mpr ⟨StableHlo.devRef_mem_tcRefs _, by rw [h]; exact Bool.false_ne_true⟩

/-- The argument arrays at the end of a run are those at its start. -/
theorem args_unchanged (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h.1 c _ (mem_ucs main_arg0 (by decide))).trans (V4_arg m c main_arg0 (by decide) (by decide) (by decide) (by decide) (by decide) (by decide) (by decide)),
    (h.1 c _ (mem_ucs main_arg1 (by decide))).trans (V4_arg m c main_arg1 (by decide) (by decide) (by decide) (by decide) (by decide) (by decide) (by decide)),
    (h.1 c _ (mem_ucs main_arg2 (by decide))).trans (V4_arg m c main_arg2 (by decide) (by decide) (by decide) (by decide) (by decide) (by decide) (by decide)),
    (h.1 c _ (mem_ucs main_arg3 (by decide))).trans (V4_arg m c main_arg3 (by decide) (by decide) (by decide) (by decide) (by decide) (by decide) (by decide)),
    (h.1 c _ (mem_ucs main_arg4 (by decide))).trans (V4_arg m c main_arg4 (by decide) (by decide) (by decide) (by decide) (by decide) (by decide) (by decide)),
    (h.1 c _ (mem_ucs main_arg5 (by decide))).trans (V4_arg m c main_arg5 (by decide) (by decide) (by decide) (by decide) (by decide) (by decide) (by decide)),
    (h.1 c _ (mem_ucs main_arg6 (by decide))).trans (V4_arg m c main_arg6 (by decide) (by decide) (by decide) (by decide) (by decide) (by decide) (by decide)),
    (h.1 c _ (mem_ucs main_arg7 (by decide))).trans (V4_arg m c main_arg7 (by decide) (by decide) (by decide) (by decide) (by decide) (by decide) (by decide))⟩

end Cert.Proof.Mem

namespace Cert.Proof

open Idealize.ShloMosaic Idealize.SL.Sem

/-- The kernel on extended reals runs and leaves its arguments as they were. -/
theorem frame_kernelIdeal : Cert.quiescent_KernelIdeal := by
  intro m g hpre
  have hm : Mem.PreOK m := fun d j => (Pre.ranges _ _ _ _ _ _ _ _ (hpre d)).1 j
  exact (θ_run _ _ _).mono (fun r h => ⟨Mem.args_unchanged m r h, h.2⟩) (Mem.run_main m g hm)

/-- The same where the features and the memory are finite as well. -/
theorem frame_kernelIdeal_finite : Cert.quiescent_KernelIdeal_pre_ranges_finite := by
  intro m g hpre
  have hm : Mem.PreOK m := fun d j => (Pre.ranges_finite _ _ _ _ _ _ _ _ (hpre d)).1 j
  exact (θ_run _ _ _).mono (fun r h => ⟨Mem.args_unchanged m r h, h.2⟩) (Mem.run_main m g hm)

end Cert.Proof

end
-- ==== Proof.BitsFrame.lean ====
/-
  The frame of the kernel as compiled, at bit patterns: every fair run ends with the arguments unchanged and every semaphore at zero.
-/
module

public import proofs.«01_k».proof.Proof.BitsMain
public import proofs.«01_k».proof.Proof.Pre

@[expose] public section

noncomputable section

namespace Cert.Proof.MemBits

open Cert.Kernel Cert.Kernel.Gen

open Idealize.ShloMosaic
open Idealize.SL.Sem

variable {F : FTy → Type} [FloatOps F]
variable (m : (ℓ : Loc nD τ sig) → Buf (Elt F) ℓ)

/-- A buffer that is neither the gathered labels, nor a reshape of them or of the labels, nor a result of the region or
    of what follows it, is left as it was. -/
theorem V4_arg (d : Dev nD) (r : Ref sig .tc) (h0 : r ≠ main_v0) (h1 : r ≠ main_v1) (h2 : r ≠ main_v2) (h3 : r ≠ main_v3)
    (h4 : r ≠ main_v4) (h5 : r ≠ main_cst) (h6 : r ≠ main_v5) : V4 m d (Proc.devRef .tc r) = m ((d.tc : Thread nD τ).loc r) := by
  unfold V4
  rw [StableHlo.binary_result_ne _ _ _ _ _ _ _ _ h6, StableHlo.nullary_result_ne _ _ _ _ h5, StableHlo.reshape_result_ne _ _ _ _ _ _ _ h4]
  unfold V3
  rw [Function.update_of_ne (StableHlo.devRef_ne_of_ne h3)]
  unfold V2
  rw [StableHlo.reshape_result_ne _ _ _ _ _ _ _ h2, StableHlo.reshape_result_ne _ _ _ _ _ _ _ h1]
  unfold V1
  rw [Function.update_of_ne (StableHlo.devRef_ne_of_ne h0)]

/-- A reference of the core that is not scoped is among its buffers. -/
theorem mem_ucs (r : Ref sig .tc) (h : (Proc.devRef .tc r : DevRef τ sig).isScoped = false) : (Proc.devRef .tc r : DevRef τ sig) ∈ ucs :=
  Finset.mem_filter.mpr ⟨StableHlo.devRef_mem_tcRefs _, by rw [h]; exact Bool.false_ne_true⟩

/-- The argument arrays at the end of a run are those at its start. -/
theorem args_unchanged (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h.1 c _ (mem_ucs main_arg0 (by decide))).trans (V4_arg m c main_arg0 (by decide) (by decide) (by decide) (by decide) (by decide) (by decide) (by decide)),
    (h.1 c _ (mem_ucs main_arg1 (by decide))).trans (V4_arg m c main_arg1 (by decide) (by decide) (by decide) (by decide) (by decide) (by decide) (by decide)),
    (h.1 c _ (mem_ucs main_arg2 (by decide))).trans (V4_arg m c main_arg2 (by decide) (by decide) (by decide) (by decide) (by decide) (by decide) (by decide)),
    (h.1 c _ (mem_ucs main_arg3 (by decide))).trans (V4_arg m c main_arg3 (by decide) (by decide) (by decide) (by decide) (by decide) (by decide) (by decide)),
    (h.1 c _ (mem_ucs main_arg4 (by decide))).trans (V4_arg m c main_arg4 (by decide) (by decide) (by decide) (by decide) (by decide) (by decide) (by decide)),
    (h.1 c _ (mem_ucs main_arg5 (by decide))).trans (V4_arg m c main_arg5 (by decide) (by decide) (by decide) (by decide) (by decide) (by decide) (by decide)),
    (h.1 c _ (mem_ucs main_arg6 (by decide))).trans (V4_arg m c main_arg6 (by decide) (by decide) (by decide) (by decide) (by decide) (by decide) (by decide)),
    (h.1 c _ (mem_ucs main_arg7 (by decide))).trans (V4_arg m c main_arg7 (by decide) (by decide) (by decide) (by decide) (by decide) (by decide) (by decide))⟩

end Cert.Proof.MemBits

namespace Cert.Proof

open Idealize.ShloMosaic Idealize.SL.Sem

/-- The kernel at bit patterns runs and leaves its arguments as they were. -/
theorem frame_kernel : Cert.quiescent_Kernel := by
  intro m g hpre
  have hm : MemBits.PreOK m := fun d j => (Pre.ranges _ _ _ _ _ _ _ _ (hpre d)).1 j
  exact (θ_run _ _ _).mono (fun r h => ⟨MemBits.args_unchanged m r h, h.2⟩) (MemBits.run_main m g hm)

end Cert.Proof

end
-- ==== Proof.RefFrame.lean ====
/-
  The frame of the reference: it is host operations only, so it ends with its arguments unchanged, and it has no
  semaphore.
-/
module

public import proofs.«01_k».proof.Defs
public import proofs.«01_k».proof.Proof.Gen.ReferenceIdeal.Run
public import Idealize.ShloMosaic.Lib.Quiescent
public import proofs.«01_k».proof.Proof.Gen.Pre_ranges_finite

@[expose] public section

noncomputable section

namespace Cert.Proof

open Idealize.ShloMosaic Idealize.SL.Sem

/-- The reference on extended reals runs and leaves its arguments as they were. -/
theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The same where the arguments are in range and finite. -/
theorem frame_reference_finite : Cert.quiescent_ReferenceIdeal_pre_ranges_finite := fun m g _ =>
  (θ_run _ _ _).mono (fun r h => ⟨fun c => (h c).2, sem_eq_zero_of_no_sems (by decide) r.2⟩) (Cert.ReferenceIdeal.Value.run (F := Ideal) m g)

end Cert.Proof

end
-- ==== Proof.Win.lean ====
/-
  The kernel's blocks at coordinates of the argument arrays, and its result from the two halves' parts.
-/
module

public import proofs.«01_k».proof.Proof.Frame
public import Idealize.ShloMosaic.Lib.Pipeline.ValueKit.Point

@[expose] public section

set_option maxRecDepth 16384

noncomputable section

namespace Cert.Proof.Mem

open Cert.KernelIdeal Cert.KernelIdeal.Gen
open Idealize.ShloMosaic Idealize.ShloMosaic.TcCoe

variable {F : FTy → Type} [FloatOps F] [Named F]
variable (m : (ℓ : Loc nD τ sig) → Buf (Elt F) ℓ) (d : Dev nD)

/-! ## What the region reads -/

theorem E2_arg (r : Ref sig .tc) (h0 : r ≠ main_v0) (h1 : r ≠ main_v1) (h2 : r ≠ main_v2) :
    E2 m d r = m ((d.tc : Thread nD τ).loc r) := by
  unfold E2 V2
  rw [StableHlo.reshape_result_ne _ _ _ _ _ _ _ h2, StableHlo.reshape_result_ne _ _ _ _ _ _ _ h1]
  unfold V1
  rw [Function.update_of_ne (StableHlo.devRef_ne_of_ne h0)]

theorem E2_v1 : E2 m d main_v1 = shapeCast S2x512x1 (gathered m d) shapeCasts_S1024_S2x512x1 := by
  unfold E2 V2
  rw [StableHlo.reshape_result_ne _ _ _ _ _ _ _ (by decide)]
  refine (StableHlo.reshape_result _ _ _ _ _ _ _).trans ?_
  unfold V1
  rw [Function.update_self]
  rfl

theorem E2_v2 : E2 m d main_v2 = shapeCast S10x1x10000 (m (lLoc d)) shapeCasts_S100000_S10x1x10000 := by
  unfold E2 V2
  refine (StableHlo.reshape_result _ _ _ _ _ _ _).trans ?_
  rw [StableHlo.reshape_result_ne _ _ _ _ _ _ _ (by decide)]
  unfold V1
  rw [Function.update_of_ne (StableHlo.devRef_ne_of_ne (by decide))]
  rfl

/-! ## The blocks -/

theorem ix_0 : ∀ t : Fin cfg1.N, win1_0.index t = ![t.val / 10, 0] := (by decide +kernel : ∀ t : Fin grid1.N, _)
theorem ix_1 : ∀ t : Fin cfg1.N, win1_1.index t = ![t.val / 10, 0] := (by decide +kernel : ∀ t : Fin grid1.N, _)
theorem ix_2 : ∀ t : Fin cfg1.N, win1_2.index t = ![t.val / 10, 0, 0] := (by decide +kernel : ∀ t : Fin grid1.N, _)
theorem ix_3 : ∀ t : Fin cfg1.N, win1_3.index t = ![t.val % 10, 0] := (by decide +kernel : ∀ t : Fin grid1.N, _)
theorem ix_4 : ∀ t : Fin cfg1.N, win1_4.index t = ![t.val % 10, 0, 0] := (by decide +kernel : ∀ t : Fin grid1.N, _)
theorem ix_5 : ∀ t : Fin cfg1.N, win1_5.index t = ![t.val / 10, 0, 0] := (by decide +kernel : ∀ t : Fin grid1.N, _)

theorem lt_N (t : Fin cfg1.N) : t.val < 20 := t.isLt.trans_eq N_1

/-- The last point of half `b`. -/
def atEnd (b : Fin 2) : Fin cfg1.N := ⟨10 * b.val + 9, (show 10 * b.val + 9 < 20 by omega).trans_eq N_1.symm⟩

variable (t : Fin cfg1.N)

/-- Row `r` of the half that point `t` works on. -/
def rowOf (r : Fin 512) : Fin 1024 := ⟨t.val / 10 * 512 + r.val, by have := lt_N t; omega⟩
/-- Row `j` of the block of the memory at point `t`. -/
def memOf (j : Fin 10000) : Fin 100000 := ⟨t.val % 10 * 10000 + j.val, by omega⟩

theorem blk_0 (r : Fin 512) (k : Fin 64) : iblk (E2 m) d 0 t (ix2 r k) = m ((d.tc : Thread nD τ).loc main_arg0) (ix2 (rowOf t r) k) := by
  have h := E2_arg m d main_arg0 (by decide) (by decide) (by decide)
  unfold iblk
  show ((win1_0.blk t).view.read (Elt F) (E2 m d main_arg0)) (ix2 r k) = _
  rw [h]
  blk_ext! [ix_0 t, rowOf]

theorem blk_1 (r : Fin 512) (k : Fin 64) : iblk (E2 m) d 1 t (ix2 r k) = m ((d.tc : Thread nD τ).loc main_arg1) (ix2 (rowOf t r) k) := by
  have h := E2_arg m d main_arg1 (by decide) (by decide) (by decide)
  unfold iblk
  show ((win1_1.blk t).view.read (Elt F) (E2 m d main_arg1)) (ix2 r k) = _
  rw [h]
  blk_ext! [ix_1 t, rowOf]

theorem blk_3 (j : Fin 10000) (k : Fin 64) : iblk (E2 m) d 3 t (ix2 j k) = m ((d.tc : Thread nD τ).loc main_arg6) (ix2 (memOf t j) k) := by
  have h := E2_arg m d main_arg6 (by decide) (by decide) (by decide)
  unfold iblk
  show ((win1_3.blk t).view.read (Elt F) (E2 m d main_arg6)) (ix2 j k) = _
  rw [h]
  blk_ext! [ix_3 t, memOf]

/-- The gathered labels of a half, in their order. -/
theorem blk_2 (r : Fin 512) : iblk (E2 m) d 2 t (ix3 0 r 0) = gathered m d (ix1 (rowOf t r)) := by
  unfold iblk
  show ((win1_2.blk t).view.read (Elt F) (E2 m d main_v1)) (ix3 0 r 0) = _
  rw [E2_v1]
  have e : (win1_2.blk t).view.emb (ix3 0 r 0) = ix3 ⟨t.val / 10, by have := lt_N t; omega⟩ r 0 := by blk_ext [ix_2 t]
  refine (congrArg (shapeCast S2x512x1 (gathered m d) shapeCasts_S1024_S2x512x1) e).trans ?_
  pointwise []
  rfl

/-- A vector cut into rows, read at a row and a column. -/
theorem tiles_apply {α : Type} {M A N : ℕ} (x : (⟨1, ![M]⟩ : Shape).Idx → α) (hs : (⟨1, ![M]⟩ : Shape).ShapeCasts ⟨3, ![A, 1, N]⟩)
    (a : Fin A) (j : Fin N) (n : Fin M) (h : n.val = a.val * N + j.val) :
    shapeCast ⟨3, ![A, 1, N]⟩ x hs (ix3 a 0 j) = x (ix1 n) := by
  refine shapeCast_apply x hs _ _ ?_
  rw [Shape.rowMajor_val_three, Shape.rowMajor_val_one]
  show n.val = (a.val * 1 + 0) * N + j.val
  rw [h, Nat.mul_one, Nat.add_zero]

/-- A block of the labels. -/
theorem blk_4 (j : Fin 10000) : iblk (E2 m) d 4 t (ix3 0 0 j) = m (lLoc d) (ix1 (memOf t j)) := by
  unfold iblk
  show ((win1_4.blk t).view.read (Elt F) (E2 m d main_v2)) (ix3 0 0 j) = _
  rw [E2_v2]
  have e : (win1_4.blk t).view.emb (ix3 0 0 j) = ix3 ⟨t.val % 10, by omega⟩ 0 j := by blk_ext [ix_4 t]
  refine (congrArg (shapeCast S10x1x10000 (m (lLoc d)) shapeCasts_S100000_S10x1x10000) e).trans ?_
  exact tiles_apply _ _ _ _ (memOf t j) rfl

/-! ## The result -/

/-- The loss of the accumulators after point `t`. -/
def lossAt : F .f32 := lossOf (iblk (E2 m) d 0 t) (iblk (E2 m) d 1 t) (accAt (E2 m) d t.val t.isLt) (ix3 0 0 0)

/-- The part of the loss of half `b`. -/
def part (b : Fin 2) : F .f32 := lossAt m d (atEnd b)

theorem out_eq : (dats (E2 m) (Rec (F := F)) 0 d).arrAt 5 cfg1.N = (fun i : S2x1x1.Idx => part m d (i 0)) := by
  refine (dats (E2 m) (Rec (F := F)) 0 d).arrAt_eq_of_covers 5 _ (by decide +kernel) fun t hf y => ?_
  blk_simp
  rw [after_5]
  have hf' : t.val % 10 = 9 := (flush1_5 t).1 hf
  have hy : y = ix3 0 0 0 := funext fun a => Fin.ext (by
    have := (y a).isLt
    fin_cases a <;> exact Nat.lt_one_iff.1 this)
  have hb : (win1_5.blk t).view.emb y 0 = (⟨t.val / 10, by have := lt_N t; omega⟩ : Fin 2) := by
    refine Fin.ext ?_
    rw [hy]
    blk_simp [ix_5 t]
    rfl
  have ht : t = atEnd ⟨t.val / 10, by have := lt_N t; omega⟩ := Fin.ext (show t.val = 10 * (t.val / 10) + 9 by omega)
  show _ = part m d ((win1_5.blk t).view.emb y 0)
  rw [hb, hy]
  exact congrArg (lossAt m d) ht

theorem V4_out : V4 m d (Proc.devRef .tc main_v5)
    = Host.reduceAdd (fun j : S2.Idx => part m d (j 0)) (constant S_ .f32 0x00000000#32) reducesTo_S2_S_d0 h_S_ := by
  unfold V4
  refine (StableHlo.binary_result _ _ _ _ _ _ _ _).trans ?_
  have e1 : op4.result (op3.result (V3 m d)) (Proc.devRef .tc main_cst) = constant S_ .f32 0x00000000#32 := StableHlo.nullary_result _ _ _ _
  have e2 : op4.result (op3.result (V3 m d)) (Proc.devRef .tc main_v4) = (fun j : S2.Idx => part m d (j 0)) := by
    rw [StableHlo.nullary_result_ne _ _ _ _ (by decide)]
    refine (StableHlo.reshape_result _ _ _ _ _ _ _).trans ?_
    unfold V3
    rw [Function.update_self, out_eq]
    show shapeCast S2 (fun i : S2x1x1.Idx => part m d (i 0)) shapeCasts_S2x1x1_S2 = _
    funext j
    idx_vars j
    pointwise []
  rw [e1, e2]

end Cert.Proof.Mem

end
-- ==== Proof.Reals.lean ====
/-
  Real arithmetic under the extended reals: sums of reals, the constants of the two programs, and a row divided by its
  norm.
-/
module

public import Idealize.ShloMosaic.Lib.Pointwise

@[expose] public section

noncomputable section

namespace Cert.Proof.Val

open Idealize.ShloMosaic

/-- A sum of reals, summed as extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The weight of the target's class, 0.9 to the nearest float. -/
def w9 : ℝ := 15099494 / 16777216
/-- The weight shared by all classes, 0.1 to the nearest float. -/
def w1 : ℝ := 13421773 / 134217728
/-- The temperature, 0.05 to the nearest float. -/
def temp : ℝ := 13421773 / 268435456
/-- The feature scale: one over the temperature, over log 2. -/
def scl : ℝ := 268435456 / 13421773 * (Real.log 2)⁻¹

theorem bits_w9 : Ideal.ofBits .f32 0x3F666666#32 = ((w9 : ℝ) : EReal) := by
  simp [Ideal.ofBits, Ideal.ieee, w9, -EReal.coe_mul]; norm_num
theorem bits_neg_w9 : Ideal.ofBits .f32 0xBF666666#32 = ((-w9 : ℝ) : EReal) := by
  simp [Ideal.ofBits, Ideal.ieee, w9, -EReal.coe_mul, -EReal.coe_neg]; norm_num
theorem bits_w1 : Ideal.ofBits .f32 0x3DCCCCCD#32 = ((w1 : ℝ) : EReal) := by
  simp [Ideal.ofBits, Ideal.ieee, w1, -EReal.coe_mul]; norm_num
theorem bits_temp : Ideal.ofBits .f32 0x3D4CCCCD#32 = ((temp : ℝ) : EReal) := by
  simp [Ideal.ofBits, Ideal.ieee, temp, -EReal.coe_mul]; norm_num
theorem bits_94 : Ideal.ofBits .f32 0x42BC0000#32 = ((94 : ℝ) : EReal) := by
  simp [Ideal.ofBits, Ideal.ieee, -EReal.coe_mul]; norm_num
theorem bits_100000 : Ideal.ofBits .f32 0x47C35000#32 = ((100000 : ℝ) : EReal) := by
  simp [Ideal.ofBits, Ideal.ieee, -EReal.coe_mul]; norm_num
theorem bits_quarter : Ideal.ofBits .f32 0x3E800000#32 = ((1 / 4 : ℝ) : EReal) := by
  simp [Ideal.ofBits, Ideal.ieee, -EReal.coe_mul]; norm_num
theorem bits_1024th : Ideal.ofBits .f32 0x3A800000#32 = ((1 / 1024 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul, -EReal.coe_neg]; norm_num
theorem bits_bot : Ideal.ofBits .f32 0xFF800000#32 = (⊥ : EReal) := by
  simp [Ideal.ofBits, Ideal.ieee]

theorem scl_pos : 0 < scl := by
  unfold scl; have := Real.log_pos (by norm_num : (1 : ℝ) < 2); positivity

/-- A power of two of a scaled score is the exponential of the score over the temperature. -/
theorem rpow_scl (x m : ℝ) : (2 : ℝ) ^ (x * scl - m) = Real.exp (x / temp) * Real.exp (-(m * Real.log 2)) := by
  have h := (Real.log_pos (by norm_num : (1 : ℝ) < 2)).ne'
  rw [Real.rpow_def_of_pos (by norm_num), ← Real.exp_add]
  congr 1
  unfold scl temp
  field_simp
  ring

/-- A score scaled and multiplied by log 2 is the score over the temperature. -/
theorem scl_ln2 (x : ℝ) : x * scl * Real.log 2 = x / temp := by
  have h := (Real.log_pos (by norm_num : (1 : ℝ) < 2)).ne'
  unfold scl temp
  field_simp

/-- A quotient of reals by a real that is not zero is the real quotient. -/
theorem div_real (x y : ℝ) (h : y ≠ 0) : Ideal.div (x : EReal) (y : EReal) = ((x / y : ℝ) : EReal) := by
  rw [Ideal.div_coe h, ← EReal.coe_mul, mul_one_div]

/-- A row of positive square sum, divided by its norm or multiplied by the norm's reciprocal, is one and the same row of
    reals. -/
theorem unit_row (v : Fin 64 → EReal) (h : 0 < ∑ k, v k * v k) : ∃ b : Fin 64 → ℝ, ∀ k,
    v k * Ideal.rsqrt (∑ k, v k * v k) = (b k : EReal) ∧ Ideal.div (v k) (Ideal.sqrt (∑ k, v k * v k)) = (b k : EReal) := by
  have hsq : ∀ k, 0 ≤ v k * v k := fun k => by
    rcases le_total 0 (v k) with hk | hk
    · exact mul_nonneg hk hk
    · exact EReal.mul_nonneg_iff.2 (Or.inr ⟨hk, hk⟩)
  by_cases hT : ∑ k, v k * v k = ⊤
  · refine ⟨fun _ => 0, fun k => ?_⟩
    rw [hT]
    refine ⟨by simp, ?_⟩
    show Ideal.div (v k) ⊤ = _
    simp [Ideal.div]
  · have hk : ∀ k, v k ≠ ⊤ ∧ v k ≠ ⊥ := fun k => by
      have hle : v k * v k ≤ ∑ k, v k * v k := Finset.single_le_sum (fun k _ => hsq k) (Finset.mem_univ k)
      constructor <;> intro e <;> rw [e] at hle <;> exact hT (top_le_iff.1 (by simpa using hle))
    have hv : ∀ k, v k = (((v k).toReal : ℝ) : EReal) := fun k => (EReal.coe_toReal (hk k).1 (hk k).2).symm
    have hs : ∑ k, v k * v k = ((∑ k, (v k).toReal * (v k).toReal : ℝ) : EReal) := by
      rw [← sum_coe]
      exact Finset.sum_congr rfl fun k _ => by rw [EReal.coe_mul, ← hv k]
    rw [hs] at h ⊢
    have hp : 0 < ∑ k, (v k).toReal * (v k).toReal := by exact_mod_cast h
    have hr := Real.sqrt_pos.2 hp
    refine ⟨fun k => (v k).toReal * (Real.sqrt (∑ k, (v k).toReal * (v k).toReal))⁻¹, fun k => ⟨?_, ?_⟩⟩
    · rw [Ideal.rsqrt_coe, if_neg (not_lt.2 hp.le), if_neg hp.ne', EReal.coe_mul, ← hv k]
    · rw [Ideal.sqrt_coe, if_neg (not_lt.2 hp.le)]
      conv_lhs => rw [hv k]
      rw [div_real _ _ hr.ne', div_eq_mul_inv]

/-- A sum over `(n + 1)` tiles of `m` is the sum over all their members. -/
theorem sum_tiles (m n : ℕ) (f : ℕ → ℝ) : ∑ a ∈ Finset.range n, ∑ j : Fin m, f (a * m + j) = ∑ j ∈ Finset.range (n * m), f j := by
  induction n with
  | zero => simp
  | succ n ih =>
    rw [Finset.sum_range_succ, ih, Nat.succ_mul, Finset.sum_range_add, Fin.sum_univ_eq_sum_range (fun j => f (n * m + j))]

end Cert.Proof.Val

end
-- ==== Proof.Pay.lean ====
/-
  What the kernel's accumulators hold after each block of the memory, as real numbers, and a half's part of the loss.
-/
module

public import proofs.«01_k».proof.Proof.Runs
public import proofs.«01_k».proof.Proof.Reals

@[expose] public section

noncomputable section

namespace Cert.Proof.Val

open Cert.KernelIdeal Cert.KernelIdeal.Gen
open Idealize.ShloMosaic
open Cert.Proof.Mem (Acc first later lossOf maxLabel)

set_option maxRecDepth 16384

/-! ## The named constants -/

theorem named_scl : Named.named (F := Ideal) (φ := .f32) κ "log2e_over_temp" 0x41E6D4CA#32 = ((scl : ℝ) : EReal) :=
  IdealRules.named_const.ideal_named_scalar _ _ _ _ rfl
theorem named_ln2 : Named.named (F := Ideal) (φ := .f32) κ "ln2" 0x3F317218#32 = ((Real.log 2 : ℝ) : EReal) :=
  IdealRules.named_const.ideal_named_scalar _ _ _ _ rfl

/-! ## The payloads at an index -/

section

variable {x0 : Vec Ideal S512x64 .f32} {x3 : Vec Ideal S10000x64 .f32} {F : Fin 512 → Fin 64 → ℝ} {G : Fin 10000 → Fin 64 → ℝ}
  (h0 : ∀ r k, x0 (ix2 r k) = ((F r k : ℝ) : EReal)) (h3 : ∀ j k, x3 (ix2 j k) = ((G j k : ℝ) : EReal))

include h0 in
theorem pay7_real (r : Fin 512) (k : Fin 64) : k1_pay7 (F := Ideal) x0 (ix2 r k) = ((F r k * scl : ℝ) : EReal) := by
  pointwise [k1_pay7]
  rw [named_scl, h0, EReal.coe_mul]

include h0 in
/-- The shift of the exponents is a real number. -/
theorem pay8_real (r : Fin 512) : ∃ m : ℝ, k1_pay8 (F := Ideal) x0 (ix2 r 0) = (m : EReal) := by
  pointwise [k1_pay8]
  simp only [pay7_real h0, ← EReal.coe_mul]
  rw [sum_coe, Ideal.sqrt_coe, if_neg (not_lt.2 (Finset.sum_nonneg fun k _ => mul_self_nonneg _)), bits_94, ← EReal.coe_sub]
  exact ⟨_, rfl⟩

theorem pay9_zero (r : Fin 512) : k1_pay9 (F := Ideal) (ix2 r 0) = ((0 : ℝ) : EReal) := by
  pointwise [k1_pay9]
  exact EReal.coe_zero.symm
theorem pay10_zero (k : Fin 64) : k1_pay10 (F := Ideal) (ix2 0 k) = ((0 : ℝ) : EReal) := by
  pointwise [k1_pay10]
  exact EReal.coe_zero.symm
theorem pay11_zero (r : Fin 512) : k1_pay11 (F := Ideal) (ix2 r 0) = ((0 : ℝ) : EReal) := by
  pointwise [k1_pay11]
  exact EReal.coe_zero.symm

include h0 h3 in
/-- The scaled scores of a block. -/
theorem pay12_real (r : Fin 512) (j : Fin 10000) :
    k1_pay12 (F := Ideal) x0 x3 (ix2 r j) = (((∑ k, F r k * G j k) * scl : ℝ) : EReal) := by
  pointwise [k1_pay12]
  simp only [pay7_real h0, h3, ← EReal.coe_mul]
  rw [sum_coe, Finset.sum_mul]
  congr 1
  exact Finset.sum_congr rfl fun k _ => by ring

include h0 h3 in
/-- The running sum of exponentials takes in a block. -/
theorem pay13_real {s m : Vec Ideal S512x1 .f32} {r : Fin 512} {sr mr : ℝ} (hs : s (ix2 r 0) = (sr : EReal)) (hm : m (ix2 r 0) = (mr : EReal)) :
    k1_pay13 (F := Ideal) x0 x3 s m (ix2 r 0) = ((sr + ∑ j, (2 : ℝ) ^ ((∑ k, F r k * G j k) * scl - mr) : ℝ) : EReal) := by
  pointwise [k1_pay13]
  simp only [pay12_real h0 h3, hs, hm, ← EReal.coe_sub]
  rw [EReal.coe_add, ← sum_coe]
  rfl

include h3 in
/-- The running sum of the memory's rows takes in a block. -/
theorem pay14_real {g : Vec Ideal S1x64 .f32} {k : Fin 64} {gk : ℝ} (hg : g (ix2 0 k) = (gk : EReal)) :
    k1_pay14 (F := Ideal) x3 g (ix2 0 k) = ((gk + ∑ j, G j k : ℝ) : EReal) := by
  pointwise [k1_pay14]
  rw [hg]
  simp only [h3]
  rw [sum_coe, EReal.coe_add]

include h0 h3 in
/-- The first block picks the score of the target's class. -/
theorem pay2_real {x2 : Vec Ideal S1x512x1 .i32} {r : Fin 512} {t : Fin 10000} (h2 : x2 (ix3 0 r 0) = BitVec.ofNat 32 t.val) :
    k1_pay2 (F := Ideal) 0#32 (k1_pay12 x0 x3) x2 (k1_pay11 (F := Ideal)) (ix2 r 0) = (((∑ k, F r k * G t k) * scl : ℝ) : EReal) := by
  pointwise [k1_pay2]
  rw [h2, pay11_zero, EReal.coe_zero, zero_add, Finset.sum_eq_single t]
  · have e : IntOp.cmpi .eq (BitVec.ofNat 32 t.val) (IntOp.addi (BitVec.ofNat 32 t.val) (Scalar.muli 0#32 10000#32)) = 1#1 := by
      have : IntOp.addi (BitVec.ofNat 32 t.val) (Scalar.muli 0#32 10000#32) = BitVec.ofNat 32 t.val := by
        show BitVec.ofNat 32 t.val + 0#32 * 10000#32 = _
        simp
      rw [this]; simp [IntOp.cmpi]
    rw [e]
    exact pay12_real h0 h3 r t
  · intro j _ hj
    have e : IntOp.cmpi .eq (BitVec.ofNat 32 t.val) (IntOp.addi (BitVec.ofNat 32 j.val) (Scalar.muli 0#32 10000#32)) = 0#1 := by
      have : IntOp.addi (BitVec.ofNat 32 j.val) (Scalar.muli 0#32 10000#32) = BitVec.ofNat 32 j.val := by
        show BitVec.ofNat 32 j.val + 0#32 * 10000#32 = _
        simp
      rw [this]
      have hne : BitVec.ofNat 32 t.val ≠ BitVec.ofNat 32 j.val := fun h => hj (Fin.ext (by
        have h' := congrArg BitVec.toNat h
        simp only [BitVec.toNat_ofNat] at h'
        omega))
      show BitVec.ofBool (BitVec.ofNat 32 t.val == BitVec.ofNat 32 j.val) = 0#1
      rw [beq_eq_false_iff_ne.2 hne]
      rfl
    rw [e]
    rfl
  · intro h; exact absurd (Finset.mem_univ t) h

end

/-! ## The largest label -/

/-- `a` is the largest of 0 and the words `lab j`, `j < n`. -/
structure MaxOf (lab : ℕ → BitVec 32) (n : ℕ) (a : BitVec 32) : Prop where
  attained : a = 0#32 ∨ ∃ j, j < n ∧ a = lab j
  nonneg : 0 ≤ a.toInt
  le : ∀ j, j < n → (lab j).toInt ≤ a.toInt

theorem maxsi_cases (a b : BitVec 32) : (IntOp.maxsi a b = a ∨ IntOp.maxsi a b = b) ∧ a.toInt ≤ (IntOp.maxsi a b).toInt
    ∧ b.toInt ≤ (IntOp.maxsi a b).toInt := by
  unfold IntOp.maxsi
  split
  · rename_i h
    rw [BitVec.slt_iff_toInt_lt] at h
    exact ⟨Or.inl rfl, le_refl _, h.le⟩
  · rename_i h
    rw [BitVec.slt_iff_toInt_lt] at h
    exact ⟨Or.inr rfl, not_lt.1 h, le_refl _⟩

/-- The fold of the signed maximum over a set is its start or a member's word, and none of them is larger. -/
theorem fold_maxsi {ι : Type} [DecidableEq ι] (s : Finset ι) (b : BitVec 32) (f : ι → BitVec 32) :
    (s.fold IntOp.maxsi b f = b ∨ ∃ i ∈ s, s.fold IntOp.maxsi b f = f i) ∧ b.toInt ≤ (s.fold IntOp.maxsi b f).toInt
      ∧ ∀ i ∈ s, (f i).toInt ≤ (s.fold IntOp.maxsi b f).toInt := by
  induction s using Finset.induction_on with
  | empty => exact ⟨Or.inl rfl, le_refl _, fun i hi => absurd hi (Finset.notMem_empty i)⟩
  | insert x s hx ih =>
    rw [Finset.fold_insert hx]
    obtain ⟨h1, h2, h3⟩ := maxsi_cases (f x) (s.fold IntOp.maxsi b f)
    refine ⟨?_, ih.2.1.trans h3, fun i hi => ?_⟩
    · rcases h1 with h1 | h1
      · exact Or.inr ⟨x, Finset.mem_insert_self x s, h1⟩
      · rw [h1]
        rcases ih.1 with h | ⟨i, hi, h⟩
        · exact Or.inl h
        · exact Or.inr ⟨i, Finset.mem_insert_of_mem hi, h⟩
    · rcases Finset.mem_insert.1 hi with rfl | hi
      · exact h2
      · exact (ih.2.2 i hi).trans h3

/-- A block's labels join those seen so far. -/
theorem maxLabel_of {lab : ℕ → BitVec 32} {n : ℕ} {a : BitVec 32} (h : MaxOf lab n a) {x4 : Vec Ideal S1x1x10000 .i32}
    (h4 : ∀ j : Fin 10000, x4 (ix3 0 0 j) = lab (n + j.val)) : MaxOf lab (n + 10000) (maxLabel (F := Ideal) x4 a) := by
  obtain ⟨b, hb, hb1, hb2⟩ : ∃ b : BitVec 32, maxLabel (F := Ideal) x4 a = IntOp.maxsi a b
      ∧ (b = 2147483648#32 ∨ ∃ j : Fin 10000, b = lab (n + j.val)) ∧ ∀ j : Fin 10000, (lab (n + j.val)).toInt ≤ b.toInt := by
    refine ⟨(Finset.univ.filter fun i => reduces_S1x1x1x10000_S1.drop i = ix1 0).fold IntOp.maxsi 2147483648#32
      (fun x : S1x1x1x10000.Idx => x4 (ix3 0 0 (x 3))), by pointwise [maxLabel, k1_pay1, k1_pay15]; rfl, ?_, ?_⟩
    · rcases (fold_maxsi (Finset.univ.filter fun i => reduces_S1x1x1x10000_S1.drop i = ix1 0) 2147483648#32
        (fun x : S1x1x1x10000.Idx => x4 (ix3 0 0 (x 3)))).1 with e | ⟨i, _, e⟩
      · exact Or.inl e
      · exact Or.inr ⟨i 3, e.trans (h4 _)⟩
    · intro j
      rw [← h4 j]
      refine (fold_maxsi (Finset.univ.filter fun i => reduces_S1x1x1x10000_S1.drop i = ix1 0) 2147483648#32
        (fun x : S1x1x1x10000.Idx => x4 (ix3 0 0 (x 3)))).2.2 (ix4 0 0 0 j) (Finset.mem_filter.2 ⟨Finset.mem_univ _, ?_⟩)
      exact funext fun d => by
        have : d = 0 := Subsingleton.elim (α := Fin 1) _ _
        subst this
        exact Subsingleton.elim (α := Fin 1) _ _
  rw [hb]
  obtain ⟨h1, h2, h3⟩ := maxsi_cases a b
  refine ⟨?_, h.nonneg.trans h2, fun j hj => ?_⟩
  · rcases h1 with e | e
    · rw [e]
      rcases h.attained with ha | ⟨j, hj, ha⟩
      · exact Or.inl ha
      · exact Or.inr ⟨j, by omega, ha⟩
    · rcases hb1 with e' | ⟨j, e'⟩
      · have := h.nonneg.trans h2
        rw [e, e'] at this
        exact absurd this (by decide)
      · exact Or.inr ⟨n + j.val, by omega, e.trans e'⟩
  · by_cases hn : j < n
    · exact (h.le j hn).trans h2
    · have := hb2 ⟨j - n, by omega⟩
      rw [show n + (j - n) = j by omega] at this
      exact this.trans h3

/-! ## The accumulators -/

/-- The score of row `r` against the memory's row `j`. -/
def dot {R : Type} (F : R → Fin 64 → ℝ) (G : ℕ → Fin 64 → ℝ) (r : R) (j : ℕ) : ℝ := ∑ k, F r k * G j k

/-- The accumulators of a half after `n` blocks of the memory, the rows' targets at `t`. -/
structure Held (F : Fin 512 → Fin 64 → ℝ) (G : ℕ → Fin 64 → ℝ) (lab : ℕ → BitVec 32) (t : Fin 512 → ℕ) (n : ℕ) (acc : Acc Ideal) : Prop where
  s : ∀ r, ∃ m : ℝ, acc.m (ix2 r 0) = (m : EReal)
    ∧ acc.s (ix2 r 0) = ((∑ a ∈ Finset.range n, ∑ j : Fin 10000, (2 : ℝ) ^ (dot F G r (a * 10000 + j) * scl - m) : ℝ) : EReal)
  g : ∀ k, acc.g (ix2 0 k) = ((∑ a ∈ Finset.range n, ∑ j : Fin 10000, G (a * 10000 + j) k : ℝ) : EReal)
  t : ∀ r, acc.t (ix2 r 0) = ((dot F G r (t r) * scl : ℝ) : EReal)
  a : MaxOf lab (n * 10000) acc.a

section

variable {F : Fin 512 → Fin 64 → ℝ} {G : ℕ → Fin 64 → ℝ} {lab : ℕ → BitVec 32} {t : Fin 512 → ℕ}
  {x0 : Vec Ideal S512x64 .f32} {x2 : Vec Ideal S1x512x1 .i32} {x3 : Vec Ideal S10000x64 .f32} {x4 : Vec Ideal S1x1x10000 .i32}

theorem first_a (i : grid1.Coords) : (first i x0 x2 x3 x4).a = maxLabel (F := Ideal) x4 0#32 := by
  dsimp only [first]

/-- After the first block. -/
theorem held_first {i : grid1.Coords} (hi : (i 1).val = 0) (ht : ∀ r, t r < 10000) (h0 : ∀ r k, x0 (ix2 r k) = ((F r k : ℝ) : EReal))
    (h2 : ∀ r, x2 (ix3 0 r 0) = BitVec.ofNat 32 (t r)) (h3 : ∀ (j : Fin 10000) k, x3 (ix2 j k) = ((G j.val k : ℝ) : EReal))
    (h4 : ∀ j : Fin 10000, x4 (ix3 0 0 j) = lab j.val) : Held F G lab t 1 (first i x0 x2 x3 x4) where
  s r := by
    obtain ⟨m, hm⟩ := pay8_real h0 r
    refine ⟨m, hm, (pay13_real h0 h3 (pay9_zero r) hm).trans ?_⟩
    rw [Finset.sum_range_one, zero_add]
    simp only [dot, zero_mul, zero_add]
  g k := (pay14_real h3 (pay10_zero k)).trans (by rw [Finset.sum_range_one, zero_add]; simp only [zero_mul, zero_add])
  t r := by
    show k1_pay2 (BitVec.ofNat 32 (i 1).val) (k1_pay12 x0 x3) x2 (k1_pay11 (F := Ideal)) (ix2 r 0) = _
    rw [hi]
    exact pay2_real h0 h3 (t := ⟨t r, ht r⟩) (h2 r)
  a := by
    have h : MaxOf lab 0 0#32 := ⟨Or.inl rfl, by decide, fun j hj => absurd hj (Nat.not_lt_zero j)⟩
    have := maxLabel_of h (x4 := x4) (fun j => (h4 j).trans (by rw [Nat.zero_add]))
    rw [Nat.zero_add] at this
    rw [Nat.one_mul, first_a]
    exact this

/-- After a later one. -/
theorem held_later {n : ℕ} {acc : Acc Ideal} (h : Held F G lab t n acc) (h0 : ∀ r k, x0 (ix2 r k) = ((F r k : ℝ) : EReal))
    (h3 : ∀ (j : Fin 10000) k, x3 (ix2 j k) = ((G (n * 10000 + j.val) k : ℝ) : EReal))
    (h4 : ∀ j : Fin 10000, x4 (ix3 0 0 j) = lab (n * 10000 + j.val)) : Held F G lab t (n + 1) (later x0 x3 x4 acc) where
  s r := by
    obtain ⟨m, hm, hs⟩ := h.s r
    refine ⟨m, hm, (pay13_real h0 h3 hs hm).trans ?_⟩
    rw [Finset.sum_range_succ]
    rfl
  g k := (pay14_real h3 (h.g k)).trans (by rw [Finset.sum_range_succ])
  t r := h.t r
  a := by
    rw [Nat.succ_mul]
    exact maxLabel_of h.a h4

end

/-! ## A half's part of the loss -/

/-- The log-sum-exp of a row's scores over the temperature. -/
def lse {R : Type} (F : R → Fin 64 → ℝ) (G : ℕ → Fin 64 → ℝ) (r : R) : ℝ := Real.log (∑ j ∈ Finset.range 100000, Real.exp (dot F G r j / temp))

/-- A row's soft cross entropy, `n` the number of classes and `t` its class. -/
def soft {R : Type} (F : R → Fin 64 → ℝ) (G : ℕ → Fin 64 → ℝ) (n : ℝ) (r : R) (t : ℕ) : ℝ :=
  -w9 * (dot F G r t / temp - lse F G r) - w1 / n * (∑ j ∈ Finset.range 100000, dot F G r j / temp - 100000 * lse F G r)

/-- A row over its norm. -/
def unit {R : Type} (F : R → Fin 64 → ℝ) (r : R) (k : Fin 64) : ℝ := F r k / Real.sqrt (∑ k, F r k * F r k)

section

variable {F : Fin 512 → Fin 64 → ℝ} {G : ℕ → Fin 64 → ℝ} {lab : ℕ → BitVec 32} {t : Fin 512 → ℕ}
  {x0 x1 : Vec Ideal S512x64 .f32} {acc : Acc Ideal}

/-- The kernel's log-sum-exp is the row's, whatever the shift. -/
theorem lse_shift (r : Fin 512) (m : ℝ) :
    m * Real.log 2 + Real.log (∑ a ∈ Finset.range 10, ∑ j : Fin 10000, (2 : ℝ) ^ (dot F G r (a * 10000 + j) * scl - m)) = lse F G r := by
  have h := sum_tiles 10000 10 (fun j => (2 : ℝ) ^ (dot F G r j * scl - m))
  rw [h]
  simp only [rpow_scl]
  rw [← Finset.sum_mul, Real.log_mul, Real.log_exp]
  · unfold lse
    norm_num
  · refine (Finset.sum_pos (fun j _ => Real.exp_pos _) ?_).ne'
    exact ⟨0, by simp⟩
  · exact (Real.exp_pos _).ne'

/-- A row's part of the soft cross entropy. -/
theorem pay4_real (h0 : ∀ r k, x0 (ix2 r k) = ((F r k : ℝ) : EReal)) (h : Held F G lab t 10 acc) (hn : ((Scalar.addi acc.a 1#32).toInt : ℝ) ≠ 0) (r : Fin 512) :
    k1_pay4 (F := Ideal) (k1_pay7 x0) acc.m acc.s acc.g acc.t acc.a (ix2 r 0)
      = ((soft F G ((Scalar.addi acc.a 1#32).toInt : ℝ) r (t r) : ℝ) : EReal) := by
  obtain ⟨m, hm, hs⟩ := h.s r
  pointwise [k1_pay4]
  simp only [pay7_real h0, h.g, ← EReal.coe_mul]
  rw [hm, hs, h.t r, named_ln2, bits_neg_w9, bits_w1, bits_100000, sum_coe]
  have hpos : 0 < ∑ a ∈ Finset.range 10, ∑ j : Fin 10000, (2 : ℝ) ^ (dot F G r (a * 10000 + j) * scl - m) :=
    Finset.sum_pos (fun a _ => Finset.sum_pos (fun j _ => Real.rpow_pos_of_pos (by norm_num) _) ⟨0, Finset.mem_univ _⟩) ⟨0, by simp⟩
  rw [Ideal.log_coe, if_neg (not_le.2 hpos), div_real _ _ hn]
  simp only [← EReal.coe_mul, ← EReal.coe_add, ← EReal.coe_sub]
  rw [lse_shift, scl_ln2]
  have hsum : (∑ k, F r k * scl * ∑ a ∈ Finset.range 10, ∑ j : Fin 10000, G (a * 10000 + j) k) * Real.log 2
      = ∑ j ∈ Finset.range 100000, dot F G r j / temp := by
    have hg : ∀ k, ∑ a ∈ Finset.range 10, ∑ j : Fin 10000, G (a * 10000 + j) k = ∑ j ∈ Finset.range 100000, G j k := fun k =>
      sum_tiles 10000 10 (fun j => G j k)
    have hd : ∀ j, dot F G r j / temp = dot F G r j * scl * Real.log 2 := fun j => (scl_ln2 _).symm
    simp only [hg, hd]
    rw [← Finset.sum_mul, ← Finset.sum_mul]
    refine congrArg (· * Real.log 2) ?_
    simp only [dot, Finset.mul_sum, Finset.sum_mul]
    rw [Finset.sum_comm]
    exact Finset.sum_congr rfl fun j _ => Finset.sum_congr rfl fun k _ => by ring
  rw [hsum]
  rfl

/-- A row over its norm, the scale cancelling. -/
theorem pay5_real (h0 : ∀ r k, x0 (ix2 r k) = ((F r k : ℝ) : EReal)) (hF : ∀ r, 0 < ∑ k, F r k * F r k) (r : Fin 512) (k : Fin 64) :
    k1_pay5 (F := Ideal) (k1_pay7 x0) (ix2 r k) = ((unit F r k : ℝ) : EReal) := by
  pointwise [k1_pay5]
  simp only [pay7_real h0, ← EReal.coe_mul]
  have e : ∑ k, F r k * scl * (F r k * scl) = scl ^ 2 * ∑ k, F r k * F r k := by
    rw [Finset.mul_sum]; exact Finset.sum_congr rfl fun k _ => by ring
  have hp : 0 < scl ^ 2 * ∑ k, F r k * F r k := mul_pos (pow_pos scl_pos 2) (hF r)
  rw [sum_coe, e, Ideal.rsqrt_coe, if_neg (not_lt.2 hp.le), if_neg hp.ne', ← EReal.coe_mul, Real.sqrt_mul (sq_nonneg _),
    Real.sqrt_sq scl_pos.le]
  congr 1
  unfold unit
  have := (Real.sqrt_pos.2 (hF r)).ne'
  have := scl_pos.ne'
  field_simp

/-- A half's part of the loss. -/
theorem lossOf_real {M : Fin 512 → Fin 64 → ℝ} (h0 : ∀ r k, x0 (ix2 r k) = ((F r k : ℝ) : EReal)) (hF : ∀ r, 0 < ∑ k, F r k * F r k)
    (h1 : ∀ r k, x1 (ix2 r k) * Ideal.rsqrt (∑ k, x1 (ix2 r k) * x1 (ix2 r k)) = ((M r k : ℝ) : EReal))
    (h : Held F G lab t 10 acc) (hn : ((Scalar.addi acc.a 1#32).toInt : ℝ) ≠ 0) :
    lossOf (F := Ideal) x0 x1 acc (ix3 0 0 0)
      = (((∑ r, soft F G ((Scalar.addi acc.a 1#32).toInt : ℝ) r (t r) - 1 / 4 * ∑ r, ∑ k, unit F r k * M r k) * (1 / 1024) : ℝ) : EReal) := by
  have h6 : ∀ r, k1_pay6 (F := Ideal) x1 (ix2 r 0) = ∑ k, x1 (ix2 r k) * x1 (ix2 r k) := fun r => by pointwise [k1_pay6]
  pointwise [lossOf, k1_pay3]
  simp only [pay4_real h0 h hn, pay5_real h0 hF, h6, h1, ← EReal.coe_mul, sum_coe]
  rw [bits_quarter, bits_1024th]
  simp only [← EReal.coe_mul, ← EReal.coe_sub]
  congr 3
  simp

end

end Cert.Proof.Val

end
-- ==== Proof.KVal.lean ====
/-
  The kernel's value as a real number: the accumulators after each block of the memory, the halves' parts of the loss, and their sum.
-/
module

public import proofs.«01_k».proof.Proof.Win
public import proofs.«01_k».proof.Proof.Pay

@[expose] public section

set_option maxRecDepth 16384

noncomputable section

namespace Cert.Proof.Mem

open Cert.KernelIdeal Cert.KernelIdeal.Gen
open Idealize.ShloMosaic Idealize.ShloMosaic.TcCoe
open Cert.Proof.Val (Held MaxOf soft unit dot sum_coe)

/-- Row `r` of half `b`. -/
def half (b : Fin 2) (r : Fin 512) : Fin 1024 := ⟨b.val * 512 + r.val, by omega⟩

/-- A sum over the rows, by halves. -/
theorem sum_halves (f : Fin 1024 → ℝ) : ∑ i, f i = ∑ b, ∑ r, f (half b r) := by
  refine ((Equiv.sum_comp (finProdFinEquiv (m := 2) (n := 512)) f).symm.trans (Fintype.sum_prod_type _)).trans ?_
  refine Finset.sum_congr rfl fun b _ => Finset.sum_congr rfl fun r _ => congrArg f (Fin.ext ?_)
  show r.val + 512 * b.val = b.val * 512 + r.val
  ring

section

variable {m : (ℓ : Loc nD τ sig) → Buf (Elt Ideal) ℓ} {d : Dev nD}
  {F : Fin 1024 → Fin 64 → ℝ} {G : ℕ → Fin 64 → ℝ} {lab : ℕ → BitVec 32} {l : Fin 1024 → ℕ}
  (h0 : ∀ i k, (m ((d.tc : Thread nD τ).loc main_arg0) (ix2 i k) : EReal) = ((F i k : ℝ) : EReal))
  (h6 : ∀ (j : Fin 100000) k, (m ((d.tc : Thread nD τ).loc main_arg6) (ix2 j k) : EReal) = ((G j.val k : ℝ) : EReal))
  (h7 : ∀ j : Fin 100000, m (lLoc d) (ix1 j) = lab j.val)
  (hg : ∀ i, gathered m d (ix1 i) = BitVec.ofNat 32 (l i)) (hl : ∀ i, l i < 10000)

theorem row_half (b : Fin 2) (n : ℕ) (h : n < 10) (hn : 10 * b.val + n < cfg1.N) (r : Fin 512) : rowOf ⟨10 * b.val + n, hn⟩ r = half b r :=
  Fin.ext (by
    show (10 * b.val + n) / 10 * 512 + r.val = b.val * 512 + r.val
    omega)

theorem mem_half (b : Fin 2) (n : ℕ) (h : n < 10) (hn : 10 * b.val + n < cfg1.N) (j : Fin 10000) :
    (memOf ⟨10 * b.val + n, hn⟩ j).val = n * 10000 + j.val := by
  show (10 * b.val + n) % 10 * 10000 + j.val = n * 10000 + j.val
  rw [Nat.mul_add_mod, Nat.mod_eq_of_lt h]

include h0 h6 h7 hg hl in
/-- The accumulators of half `b` after its block `n`. -/
theorem held (b : Fin 2) (n : ℕ) (h : n < 10) (hn : 10 * b.val + n < cfg1.N) :
    Held (fun r => F (half b r)) G lab (fun r => l (half b r)) (n + 1) (accAt (E2 m) d (10 * b.val + n) hn) := by
  induction n with
  | zero =>
    rw [accAt_first (E2 m) d ⟨10 * b.val + 0, hn⟩ (Nat.mul_mod_right 10 b.val)]
    refine Val.held_first ((coord_one _).trans (Nat.mul_mod_right 10 b.val)) (fun r => hl _) (fun r k => ?_) (fun r => ?_) (fun j k => ?_) (fun j => ?_)
    · rw [blk_0, row_half b 0 h hn]; exact h0 _ _
    · rw [blk_2, row_half b 0 h hn]; exact hg _
    · rw [blk_3]; refine (h6 _ _).trans ?_; rw [mem_half b 0 h hn, Nat.zero_mul, Nat.zero_add]
    · rw [blk_4]; refine (h7 _).trans ?_; rw [mem_half b 0 h hn, Nat.zero_mul, Nat.zero_add]
  | succ n ih =>
    have hmod : ¬ (10 * b.val + (n + 1)) % 10 = 0 := by omega
    rw [accAt_later (E2 m) d ⟨10 * b.val + (n + 1), hn⟩ hmod]
    refine Val.held_later (ih (by omega) (by omega)) (fun r k => ?_) (fun j k => ?_) (fun j => ?_)
    · rw [blk_0, row_half b (n + 1) h hn]; exact h0 _ _
    · rw [blk_3]; refine (h6 _ _).trans ?_; rw [mem_half b (n + 1) h hn]
    · rw [blk_4]; refine (h7 _).trans ?_; rw [mem_half b (n + 1) h hn]

theorem maxOf_unique {n : ℕ} {a b : BitVec 32} (ha : MaxOf lab n a) (hb : MaxOf lab n b) : a = b := by
  have key : ∀ {a b : BitVec 32}, MaxOf lab n a → MaxOf lab n b → a.toInt ≤ b.toInt := fun ha hb => by
    rcases ha.attained with e | ⟨j, hj, e⟩
    · rw [e]; exact hb.nonneg
    · rw [e]; exact hb.le j hj
  exact BitVec.eq_of_toInt_eq (le_antisymm (key ha hb) (key hb ha))

variable {M : Fin 1024 → Fin 64 → ℝ} {a : BitVec 32} (ha : MaxOf lab 100000 a) (hc : ((IntOp.addi a 1#32).toInt : ℝ) ≠ 0)
  (hF : ∀ i, 0 < ∑ k, F i k * F i k)
  {x1 : FVec Ideal S1024x64 .f32} (hx1 : ∀ i k, m ((d.tc : Thread nD τ).loc main_arg1) (ix2 i k) = x1 (ix2 i k))
  (h1 : ∀ i k, (x1 (ix2 i k) : EReal) * Ideal.rsqrt (∑ k, (x1 (ix2 i k) : EReal) * x1 (ix2 i k)) = ((M i k : ℝ) : EReal))

include h0 h6 h7 hg hl ha hc hF hx1 h1 in
/-- The part of half `b`. -/
theorem part_real (b : Fin 2) : part m d b
    = (((∑ r, soft F G ((IntOp.addi a 1#32).toInt : ℝ) (half b r) (l (half b r)) - 1 / 4 * ∑ r, ∑ k, unit F (half b r) k * M (half b r) k) * (1 / 1024) : ℝ) : EReal) := by
  have hH := held h0 h6 h7 hg hl b 9 (by norm_num) (atEnd b).isLt
  have e : (accAt (E2 m) d (10 * b.val + 9) (atEnd b).isLt).a = a := maxOf_unique hH.a ha
  have hc' : ((Scalar.addi (accAt (E2 m) d (10 * b.val + 9) (atEnd b).isLt).a 1#32).toInt : ℝ) ≠ 0 := by rw [e]; exact hc
  have hr : ∀ r, rowOf (atEnd b) r = half b r := row_half b 9 (by norm_num) (atEnd b).isLt
  refine (Val.lossOf_real (M := fun r => M (half b r)) (fun r k => ?_) (fun r => hF (half b r)) (fun r k => ?_) hH hc').trans ?_
  · rw [blk_0]; exact (congrArg (fun i => m ((d.tc : Thread nD τ).loc main_arg0) (ix2 i k)) (hr r)).trans (h0 _ _)
  · have e1 : ∀ k, iblk (E2 m) d 1 (atEnd b) (ix2 r k) = x1 (ix2 (half b r) k) := fun k => by
      rw [blk_1]; exact (congrArg (fun i => m ((d.tc : Thread nD τ).loc main_arg1) (ix2 i k)) (hr r)).trans (hx1 _ _)
    refine Eq.trans ?_ (h1 (half b r) k)
    exact congrArg₂ (fun u v : EReal => u * Ideal.rsqrt v) (e1 k) (Finset.sum_congr rfl fun k _ => congrArg₂ (fun u v : EReal => u * v) (e1 k) (e1 k))
  · rw [e]
    rfl

theorem sum_parts (p : Fin 2 → EReal) :
    Host.reduceAdd (F := Ideal) (fun j : S2.Idx => p (j 0)) (constant (F := Ideal) S_ .f32 0x00000000#32) reducesTo_S2_S_d0 h_S_ ix0 = ∑ b, p b := by
  pointwise []

include h0 h6 h7 hg hl ha hc hF hx1 h1 in
/-- The kernel's result. -/
theorem kernel_real : (V4 m d (Proc.devRef .tc main_v5) ix0 : EReal)
    = (((∑ i, soft F G ((IntOp.addi a 1#32).toInt : ℝ) i (l i)) * (1 / 1024) + -1 * ((∑ i, ∑ k, unit F i k * M i k) / 1024) * (1 / 4) : ℝ) : EReal) := by
  rw [V4_out]
  refine (sum_parts (part m d)).trans ?_
  rw [Fin.sum_univ_two, part_real h0 h6 h7 hg hl ha hc hF hx1 h1, part_real h0 h6 h7 hg hl ha hc hF hx1 h1, ← EReal.coe_add]
  refine congrArg Real.toEReal ?_
  rw [sum_halves fun i => soft F G ((IntOp.addi a 1#32).toInt : ℝ) i (l i), sum_halves fun i => ∑ k, unit F i k * M i k, Fin.sum_univ_two, Fin.sum_univ_two]
  ring

end

end Cert.Proof.Mem

end
-- ==== Proof.Ref.lean ====
/-
  The reference in stages, each read at an index.
-/
module

public import proofs.«01_k».proof.Defs
public import proofs.«01_k».proof.Proof.Gen.ReferenceIdeal
public import proofs.«01_k».proof.Proof.Gen.ReferenceIdeal.Run
public import proofs.«01_k».proof.Proof.Pay
public import Idealize.ShloMosaic.Lib.Routing.OpsSet
public import Idealize.ShloMosaic.Lib.ReduceAll

@[expose] public section

set_option maxRecDepth 16384

noncomputable section

namespace Cert.Proof.Ref

open Cert.ReferenceIdeal
open Cert.ReferenceIdeal.Facts₀ Cert.ReferenceIdeal.Facts
open Idealize.ShloMosaic
open Idealize.SL.Sem

variable {F : FTy → Type} [FloatOps F]

/-! ## The stages -/

/-- An index made non-negative. -/
def wrapped (x : IVec S1024 32) (n : BitVec 32) : IVec S1024 32 :=
  select (cmpi .slt x (broadcastInDim S1024 ![] bcast_S_S1024 (constantI S_ 32 0#32))) (addi x (broadcastInDim S1024 ![] bcast_S_S1024 (constantI S_ 32 n))) x

def column (x : IVec S1024 32) : IVec S1024x1 32 := broadcastInDim S1024x1 ![0] bcast_S1024_S1024x1_0 x

/-- Whether the index is in range. -/
def inRange (i : IVec S1024x1 32) : IVec S1024 1 :=
  Host.reduce IntOp.andi (andi (cmpi .sge i (broadcastInDim S1024x1 ![] bcast_S_S1024x1 (constantI S_ 32 0#32)))
    (cmpi .sle i (broadcastInDim S1024x1 ![0, 1] bcast_S1x1_S1024x1_0_1 (broadcastInDim S1x1 ![1] bcast_S1_S1x1_1 (constantI S1 32 99999#32)))))
    (constantI S_ 1 1#1) reducesTo_S1024x1_S1024_d1 h_S_

/-- The labels of the targets. -/
def taken (x7 : IVec S100000 32) (x2 : IVec S1024 32) : IVec S1024 32 :=
  select (inRange (column (wrapped x2 100000#32))) (Host.gather gather_S100000_S1024x1_S1024_n_0_n_n_0_1_1 x7 (column (wrapped x2 100000#32)))
    (broadcastInDim S1024 ![] bcast_S_S1024 (constantI S_ 32 2147483648#32))

/-- Rows and classes. -/
def table (lab : IVec S1024 32) : IVec S1024x2 32 :=
  concatenate S1024x2 1 [⟨S1024x1, column (wrapped (iotaInDim S1024 32 0) 1024#32)⟩, ⟨S1024x1, column (wrapped lab 100000#32)⟩] concatenates_S1024x1_S1024x1_S1024x2_d1

def onehot (lab : IVec S1024 32) : FVec F S1024x100000 .f32 :=
  Host.scatter scatter_S1024x100000_S1024x2_S1024_n_01_01_1 (fun _ b => b) (broadcastInDim S1024x100000 ![] bcast_S_S1024x100000 (constant S_ .f32 0x00000000#32))
    (table lab) (broadcastInDim S1024 ![] bcast_S_S1024 (constant S_ .f32 0x3F800000#32))

/-- The similarities over the temperature. -/
def scores (x0 : FVec F S1024x64 .f32) (x6 : FVec F S100000x64 .f32) : FVec F S1024x100000 .f32 :=
  Host.divf (Host.dotGeneral dot_S1024x64_S64x100000_S1024x100000_1_0_0_1_n_n none x0 (transpose S64x100000 [1, 0] x6 transposes_S100000x64_S64x100000_1_0))
    (broadcastInDim S1024x100000 ![] bcast_S_S1024x100000 (constant S_ .f32 0x3D4CCCCD#32))

/-- The largest score of a row. -/
def top (s : FVec F S1024x100000 .f32) : FVec F S1024 .f32 :=
  maximumf (broadcastInDim S1024 ![] bcast_S_S1024 (constant S_ .f32 0xFF800000#32))
    (Host.reduce FloatOps.maximumf s (constant S_ .f32 0xFF800000#32) reducesTo_S1024x100000_S1024_d1 h_S_)

def shifted (s : FVec F S1024x100000 .f32) (t : FVec F S1024 .f32) : FVec F S1024x100000 .f32 :=
  subf s (broadcastInDim S1024x100000 ![0, 1] bcast_S1024x1_S1024x100000_0_1 (broadcastInDim S1024x1 ![0] bcast_S1024_S1024x1_0 t))

def logp (s : FVec F S1024x100000 .f32) (t : FVec F S1024 .f32) : FVec F S1024x100000 .f32 :=
  subf (shifted s t) (broadcastInDim S1024x100000 ![0, 1] bcast_S1024x1_S1024x100000_0_1 (Host.log (broadcastInDim S1024x1 ![0] bcast_S1024_S1024x1_0
    (Host.reduceAdd (Host.exp (shifted s t)) (constant S_ .f32 0x00000000#32) reducesTo_S1024x100000_S1024_d1 h_S_))))

/-- The number of classes. -/
def classes (x7 : IVec S100000 32) : IVec S_ 32 :=
  addi (Host.reduce IntOp.maxsi x7 (constantI S_ 32 2147483648#32) reducesTo_S100000_S_d0 h_S_) (constantI S_ 32 1#32)

/-- The negated soft targets. -/
def negSoft (oh : FVec F S1024x100000 .f32) (n : IVec S_ 32) : FVec F S1024x100000 .f32 :=
  Host.negf (addf (mulf (broadcastInDim S1024x100000 ![] bcast_S_S1024x100000 (constant S_ .f32 0x3F666666#32)) oh)
    (broadcastInDim S1024x100000 ![] bcast_S_S1024x100000 (id (Host.divf (constant S_ .f32 0x3DCCCCCD#32) (sitofp .f32 n)))))

def cross (q lp : FVec F S1024x100000 .f32) : FVec F S_ .f32 :=
  Host.reduceAdd (Host.divf (Host.reduceAdd (mulf q lp) (constant S_ .f32 0x00000000#32) reducesTo_S1024x100000_S100000_d0 h_S_)
    (broadcastInDim S100000 ![] bcast_S_S100000 (constant S_ .f32 0x44800000#32))) (constant S_ .f32 0x00000000#32) reducesTo_S100000_S_d0 h_S_

/-- Rows over their norms. -/
def normed (x : FVec F S1024x64 .f32) : FVec F S1024x64 .f32 :=
  Host.divf x (broadcastInDim S1024x64 ![0, 1] bcast_S1024x1_S1024x64_0_1 (Host.sqrt (broadcastInDim S1024x1 ![0] bcast_S1024_S1024x1_0
    (Host.reduceAdd (mulf x x) (constant S_ .f32 0x00000000#32) reducesTo_S1024x64_S1024_d1 h_S_))))

def align (a b : FVec F S1024x64 .f32) : FVec F S_ .f32 :=
  mulf (mulf (constant S_ .f32 0xBF800000#32) (Host.divf (Host.reduceAdd (Host.reduceAdd (mulf a b) (constant S_ .f32 0x00000000#32) reducesTo_S1024x64_S1024_d1 h_S_)
    (constant S_ .f32 0x00000000#32) reducesTo_S1024_S_d0 h_S_) (constant S_ .f32 0x44800000#32))) (constant S_ .f32 0x3E800000#32)

/-- The reference of its arguments. -/
def result (x0 x1 : FVec F S1024x64 .f32) (x2 : IVec S1024 32) (x6 : FVec F S100000x64 .f32) (x7 : IVec S100000 32) : FVec F S_ .f32 :=
  addf (cross (negSoft (onehot (taken x7 x2)) (classes x7)) (logp (scores x0 x6) (top (scores x0 x6)))) (align (normed x0) (normed x1))

theorem res_eq (m : (ℓ : Loc nD τ sig) → Buf (Elt F) ℓ) (c : Dev nD) :
    Value.res_main_v50 m c = result (m ((c.tc : Thread nD τ).loc main_arg0)) (m ((c.tc : Thread nD τ).loc main_arg1)) (m ((c.tc : Thread nD τ).loc main_arg2))
      (m ((c.tc : Thread nD τ).loc main_arg6)) (m ((c.tc : Thread nD τ).loc main_arg7)) := by
  unfold Value.res_main_v50 result cross negSoft onehot taken table inRange column wrapped scores top logp shifted classes normed align
  rfl

/-! ## At an index -/

section

variable (x : IVec S1024 32) (n : BitVec 32) (i : Fin 1024) (j : Fin 100000)

theorem wrapped_apply (h : (x (ix1 i)).toNat < 2 ^ 31) : wrapped x n (ix1 i) = x (ix1 i) := by
  pointwise [wrapped]
  exact Routing.wrap_of_lt _ _ h

theorem column_apply (j : Fin 1) : column x (ix2 i j) = x (ix1 i) := by
  pointwise [column]

theorem inRange_apply (h : (x (ix1 i)).toNat < 100000) : inRange (column x) (ix1 i) = 1#1 := by
  pointwise [inRange, column]
  have e : IntOp.andi (IntOp.cmpi CmpIPredicate.sge (x (ix1 i)) 0#32) (IntOp.cmpi CmpIPredicate.sle (x (ix1 i)) 99999#32) = 1#1 := by
    revert h
    generalize x (ix1 i) = w
    intro h
    have h1 : w.toInt = (w.toNat : ℤ) := by rw [BitVec.toInt_eq_toNat_cond, if_pos (by omega)]
    have h2 : IntOp.cmpi CmpIPredicate.sge w 0#32 = 1#1 := by
      show BitVec.ofBool ((0#32).sle w) = 1#1
      rw [(BitVec.sle_iff_toInt_le (x := 0#32) (y := w)).2 (by rw [h1]; exact Int.natCast_nonneg _)]
      rfl
    have h3 : IntOp.cmpi CmpIPredicate.sle w 99999#32 = 1#1 := by
      show BitVec.ofBool (w.sle 99999#32) = 1#1
      rw [(BitVec.sle_iff_toInt_le (x := w) (y := 99999#32)).2 (by
        rw [h1, show (99999#32 : BitVec 32).toInt = 99999 by decide]; omega)]
      rfl
    rw [h2, h3]
    rfl
  rw [e]
  rfl

theorem table_row : table x (ix2 i 0) = wrapped (iotaInDim S1024 32 0) 1024#32 (ix1 i) := by
  pointwise [table, column]
theorem table_class : table x (ix2 i 1) = wrapped x 100000#32 (ix1 i) := by
  pointwise [table, column]

theorem scores_apply (x0 : FVec Ideal S1024x64 .f32) (x6 : FVec Ideal S100000x64 .f32) :
    scores x0 x6 (ix2 i j) = Ideal.div (∑ k, x0 (ix2 i k) * x6 (ix2 j k)) (Ideal.ofBits .f32 0x3D4CCCCD#32) := by
  pointwise [scores]

theorem logp_apply (s : FVec Ideal S1024x100000 .f32) (t : FVec Ideal S1024 .f32) :
    logp s t (ix2 i j) = s (ix2 i j) - t (ix1 i) - Ideal.log (∑ j, Ideal.exp (s (ix2 i j) - t (ix1 i))) := by
  pointwise [logp, shifted]

theorem classes_apply (s : IVec S100000 32) :
    classes s ix0 = IntOp.addi (Finset.fold IntOp.maxsi 2147483648#32 (fun k => s (ix1 k)) Finset.univ) 1#32 := by
  pointwise [classes]

theorem negSoft_apply (s : FVec Ideal S1024x100000 .f32) (n : IVec S_ 32) :
    negSoft s n (ix2 i j) = -(Ideal.ofBits .f32 0x3F666666#32 * s (ix2 i j)
      + Ideal.div (Ideal.ofBits .f32 0x3DCCCCCD#32) (((n ix0).toInt : ℝ) : EReal)) := by
  pointwise [negSoft, id]
  rfl

theorem cross_apply (s t : FVec Ideal S1024x100000 .f32) :
    cross s t ix0 = ∑ j, Ideal.div (∑ i, s (ix2 i j) * t (ix2 i j)) (Ideal.ofBits .f32 0x44800000#32) := by
  pointwise [cross]

theorem normed_apply (s : FVec Ideal S1024x64 .f32) (k : Fin 64) :
    normed s (ix2 i k) = Ideal.div (s (ix2 i k)) (Ideal.sqrt (∑ k, s (ix2 i k) * s (ix2 i k))) := by
  pointwise [normed]

theorem align_apply (s t : FVec Ideal S1024x64 .f32) :
    align s t ix0 = Ideal.ofBits .f32 0xBF800000#32 * Ideal.div (∑ i, ∑ k, s (ix2 i k) * t (ix2 i k)) (Ideal.ofBits .f32 0x44800000#32)
      * Ideal.ofBits .f32 0x3E800000#32 := by
  pointwise [align]

theorem result_apply (x0 x1 : FVec Ideal S1024x64 .f32) (x2 : IVec S1024 32) (x6 : FVec Ideal S100000x64 .f32) (x7 : IVec S100000 32) :
    result x0 x1 x2 x6 x7 ix0 = cross (negSoft (onehot (taken x7 x2)) (classes x7)) (logp (scores x0 x6) (top (scores x0 x6))) ix0
      + align (normed x0) (normed x1) ix0 := rfl

end

/-! ## The largest score of a row is a real number -/

theorem fold_max_real {ι : Type} [DecidableEq ι] (S : Finset ι) (f : ι → EReal) (h : ∀ i, ∃ r : ℝ, f i = (r : EReal)) :
    (S = ∅ ∧ Finset.fold max ⊥ f S = ⊥) ∨ ∃ r : ℝ, Finset.fold max ⊥ f S = (r : EReal) := by
  induction S using Finset.induction_on with
  | empty => exact Or.inl ⟨rfl, Finset.fold_empty⟩
  | insert a S ha ih =>
    obtain ⟨r, hr⟩ := h a
    refine Or.inr ?_
    rw [Finset.fold_insert ha, hr]
    rcases ih with ⟨-, e⟩ | ⟨q, e⟩
    · exact ⟨r, by rw [e]; exact max_bot_right _⟩
    · exact ⟨max r q, by rw [e]; exact (EReal.coe_strictMono.monotone.map_max).symm⟩

theorem reduce_max_real {s t u : Shape} {axes : List (Fin s.rank)} (x : s.Idx → EReal) (init : u.Idx → EReal) (h : s.ReducesTo axes t) (hu : 0 < u.numel)
    (j : t.Idx) (hx : ∀ i, ∃ r : ℝ, x i = (r : EReal)) (hi : init (Shape.Idx.first hu) = ⊥) (k : s.Idx) (hk : h.drop k = j) :
    ∃ r : ℝ, Host.reduce max x init h hu j = (r : EReal) := by
  classical
  rw [Host.reduce_eq_fold, hi]
  rcases fold_max_real (Finset.univ.filter fun i => h.drop i = j) x hx with ⟨e, -⟩ | e
  · exact absurd (e ▸ Finset.mem_filter.2 ⟨Finset.mem_univ k, hk⟩) (Finset.notMem_empty k)
  · exact e

theorem maximumf_at {s : Shape} (a b : FVec Ideal s .f32) (i : s.Idx) : maximumf a b i = max (a i) (b i) := rfl

theorem maximumf_eq : (FloatOps.maximumf (F := Ideal) (φ := .f32)) = (max : EReal → EReal → EReal) := rfl

theorem drop_row (i : Fin 1024) : reducesTo_S1024x100000_S1024_d1.drop (ix2 i 0) = ix1 i := by
  funext a
  fin_cases a
  rfl

theorem top_real (s : FVec Ideal S1024x100000 .f32) (hs : ∀ i, ∃ r : ℝ, s i = (r : EReal)) (i : Fin 1024) :
    ∃ r : ℝ, top s (ix1 i) = (r : EReal) := by
  obtain ⟨r, hr⟩ := reduce_max_real s (constant (F := Ideal) S_ .f32 0xFF800000#32) reducesTo_S1024x100000_S1024_d1 h_S_ (ix1 i) hs
    Val.bits_bot (ix2 i 0) (drop_row i)
  have hb : broadcastInDim S1024 ![] bcast_S_S1024 (constant (F := Ideal) S_ .f32 0xFF800000#32) (ix1 i) = (⊥ : EReal) := Val.bits_bot
  refine ⟨r, ?_⟩
  unfold top
  rw [maximumf_at, hb, maximumf_eq, hr]
  exact max_bot_left _

/-! ## The gather and the scatter -/

theorem taken_apply (x7 : IVec S100000 32) (x2 : IVec S1024 32) (i : Fin 1024) (b : Fin 100000) (h : x2 (ix1 i) = BitVec.ofNat 32 b.val) :
    taken x7 x2 (ix1 i) = x7 (ix1 b) := by
  have hN : (x2 (ix1 i)).toNat < 100000 := by
    rw [h, BitVec.toNat_ofNat]
    exact lt_of_le_of_lt (Nat.mod_le _ _) b.isLt
  have hw : wrapped x2 100000#32 (ix1 i) = x2 (ix1 i) := wrapped_apply _ _ _ (by omega)
  have e1 : inRange (column (wrapped x2 100000#32)) (ix1 i) = 1#1 := inRange_apply _ _ (by rw [hw]; exact hN)
  have e2 : Host.gather gather_S100000_S1024x1_S1024_n_0_n_n_0_1_1 x7 (column (wrapped x2 100000#32)) (ix1 i) = x7 (ix1 b) := by
    simp only [ix1_eq_valueIdx]
    refine Routing.gather_take1 (N := 100000) (n := 1024) gather_S100000_S1024x1_S1024_n_0_n_n_0_1_1 rfl rfl rfl rfl x7 _ i b ?_ (by norm_num)
    rw [← ix2_eq_valueIdx, column_apply, hw, h]
  pointwise [taken]
  rw [e1, e2]
  rfl

/-- Update `p` of a scatter of scalars into a matrix by a table of two words each lands where its words, read signed, say. -/
theorem lands {R C n : ℕ} (d : ScatterDims (Routing.shape2 R C) (Routing.shape2 n 2) (Routing.shape1 n)) (hiw : d.insertedWindowDims = [0, 1])
    (hsd : d.scatterDimsToOperandDims = [0, 1]) (hivd : d.indexVectorDim = 1) (idx : IVec (Routing.shape2 n 2) 32) (p : Fin n) (r : Fin R) (c : Fin C) :
    d.resultIdx? (ix1 p) idx = some (ix2 r c) ↔ (idx (ix2 p 0)).toInt = r.val ∧ (idx (ix2 p 1)).toInt = c.val := by
  have mem : ∀ q : Fin 2, q ∈ d.scatterDimsToOperandDims := fun q => by rw [hsd]; fin_cases q <;> simp
  have win : ∀ q : Fin 2, d.window (ix1 p) q = 0 := fun q => by
    refine dif_neg fun h => ?_
    have := (List.mem_filter.1 h).2
    rw [hiw] at this
    fin_cases q <;> simp at this
  have si : ∀ q : Fin 2, d.siIdx (ix1 p) ⟨d.scatterDimsToOperandDims.idxOf q, List.idxOf_lt_length_iff.2 (mem q)⟩ = ix2 p q := fun q => by
    funext b
    apply Fin.ext
    fin_cases b
    · have hb : ¬ ((0 : Fin 2).val = d.indexVectorDim) := by rw [hivd]; decide
      refine (congrArg Fin.val (dif_neg hb)).trans ?_
      unfold ScatterDims.siCoord
      simp only [Fin.val_cast]
      exact congrArg (fun a : Fin 1 => ((ix1 p : (Routing.shape1 n).Idx) a).val) (Subsingleton.elim _ (0 : Fin 1))
    · have hb : (1 : Fin 2).val = d.indexVectorDim := by rw [hivd]; rfl
      refine (congrArg Fin.val (dif_pos hb)).trans ?_
      show List.idxOf q d.scatterDimsToOperandDims = q.val
      rw [hsd]
      fin_cases q <;> rfl
  have st : ∀ q : Fin 2, d.start (ix1 p) idx q = (idx (ix2 p q)).toInt := fun q => by
    refine (dif_pos (mem q)).trans ?_
    rw [si]
  rw [ix2_eq_valueIdx r c, Routing.resultIdx?_ix2, st, st, win, win]
  simp

theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee]

theorem toInt_lt (w : BitVec 32) (h : w.toNat < 2 ^ 31) : w.toInt = (w.toNat : ℤ) := by
  rw [BitVec.toInt_eq_toNat_cond, if_pos (by omega)]

/-- The one-hot rows of labels. -/
theorem onehot_apply (lab : IVec S1024 32) (l : Fin 1024 → Fin 100000) (h : ∀ i, lab (ix1 i) = BitVec.ofNat 32 (l i).val) (i : Fin 1024) (j : Fin 100000) :
    onehot (F := Ideal) lab (ix2 i j) = ((if l i = j then 1 else 0 : ℝ) : EReal) := by
  have row : ∀ p : Fin 1024, (table lab (ix2 p 0)).toInt = (p.val : ℤ) := fun p => by
    have e : iotaInDim S1024 32 0 (ix1 p) = BitVec.ofNat 32 p.val := rfl
    have hp := p.isLt
    have hn : (BitVec.ofNat 32 p.val).toNat = p.val := by rw [BitVec.toNat_ofNat]; exact Nat.mod_eq_of_lt (by omega)
    rw [table_row, wrapped_apply _ _ _ (by rw [e, hn]; omega), e, toInt_lt _ (by rw [hn]; omega), hn]
  have cls : ∀ p : Fin 1024, (table lab (ix2 p 1)).toInt = ((l p).val : ℤ) := fun p => by
    have hp := (l p).isLt
    have hn : (BitVec.ofNat 32 (l p).val).toNat = (l p).val := by rw [BitVec.toNat_ofNat]; exact Nat.mod_eq_of_lt (by omega)
    rw [table_class, wrapped_apply _ _ _ (by rw [h, hn]; omega), h, toInt_lt _ (by rw [hn]; omega), hn]
  have key : ∀ p : Fin 1024, scatter_S1024x100000_S1024x2_S1024_n_01_01_1.resultIdx? (ix1 p) (table lab) = some (ix2 i j) ↔ p = i ∧ l p = j := fun p => by
    refine (lands (R := 1024) (C := 100000) (n := 1024) scatter_S1024x100000_S1024x2_S1024_n_01_01_1 rfl rfl rfl (table lab) p i j).trans ?_
    rw [row, cls]
    constructor
    · exact fun h => ⟨Fin.ext (by exact_mod_cast h.1), Fin.ext (by exact_mod_cast h.2)⟩
    · rintro ⟨rfl, rfl⟩; exact ⟨rfl, rfl⟩
  by_cases hl : l i = j
  · rw [if_pos hl]
    exact Routing.scatter_set_hit _ _ _ _ _ _ (fun k _ => by
      show Ideal.ofBits .f32 0x3F800000#32 = _
      exact bits_one) (ix1 i) ((key i).2 ⟨rfl, hl⟩)
  · rw [if_neg hl]
    refine (Routing.scatter_set_miss _ _ _ _ _ fun k hk => ?_).trans ?_
    · obtain ⟨p, rfl⟩ : ∃ p : Fin 1024, k = ix1 p := ⟨k 0, by funext a; fin_cases a; rfl⟩
      obtain ⟨rfl, e⟩ := (key p).1 hk
      exact hl e
    · show Ideal.ofBits .f32 0x00000000#32 = _
      exact bits_zero

end Cert.Proof.Ref

end
-- ==== Proof.RefVal.lean ====
/-
  The reference's value as a real number.
-/
module

public import proofs.«01_k».proof.Proof.Ref

@[expose] public section

set_option maxRecDepth 16384

noncomputable section

namespace Cert.Proof.Ref

open Cert.ReferenceIdeal
open Idealize.ShloMosaic
open Cert.Proof.Val (dot lse soft temp w9 w1 sum_coe div_real)

/-- A row's shift cancels in its log-softmax. -/
theorem shift_real {ι : Type} [Fintype ι] [Nonempty ι] (x : ι → ℝ) (t : ℝ) (j : ι) :
    x j - t - Real.log (∑ j, Real.exp (x j - t)) = x j - Real.log (∑ j, Real.exp (x j)) := by
  have hp : 0 < ∑ j, Real.exp (x j) := Finset.sum_pos (fun j _ => Real.exp_pos _) Finset.univ_nonempty
  have e : ∑ j, Real.exp (x j - t) = (∑ j, Real.exp (x j)) * Real.exp (-t) := by
    rw [Finset.sum_mul]
    exact Finset.sum_congr rfl fun j _ => by rw [sub_eq_add_neg, Real.exp_add]
  rw [e, Real.log_mul hp.ne' (Real.exp_ne_zero _), Real.log_exp]
  ring

theorem log_real {r : ℝ} (h : 0 < r) : Ideal.log (r : EReal) = ((Real.log r : ℝ) : EReal) := by
  rw [Ideal.log_coe, if_neg (not_le.2 h)]

/-- The soft targets' cross entropy, its sums in the other order. -/
theorem cross_sums {ι κ : Type} [Fintype ι] [Fintype κ] [DecidableEq κ] (x : ι → κ → ℝ) (L : ι → ℝ) (l : ι → κ) (a b : ℝ) :
    ∑ j, (∑ i, -(a * (if l i = j then 1 else 0 : ℝ) + b) * (x i j - L i)) / 1024
      = (∑ i, (-a * (x i (l i) - L i) - b * (∑ j, x i j - Fintype.card κ * L i))) * (1 / 1024) := by
  rw [← Finset.sum_div, Finset.sum_comm, div_eq_mul_one_div]
  congr 1
  refine Finset.sum_congr rfl fun i _ => ?_
  have e : ∀ j, -(a * (if l i = j then 1 else 0 : ℝ) + b) * (x i j - L i)
      = (if l i = j then -a * (x i j - L i) else 0) - b * (x i j - L i) := fun j => by
    split <;> ring
  simp only [e]
  rw [Finset.sum_sub_distrib, Finset.sum_ite_eq, if_pos (Finset.mem_univ _), ← Finset.mul_sum, Finset.sum_sub_distrib,
    Finset.sum_const, Finset.card_univ, nsmul_eq_mul]

section

variable {x0 x1 : FVec Ideal S1024x64 .f32} {x2 : IVec S1024 32} {x6 : FVec Ideal S100000x64 .f32} {x7 : IVec S100000 32}
  {F U M : Fin 1024 → Fin 64 → ℝ} {G : ℕ → Fin 64 → ℝ} {l : Fin 1024 → Fin 100000}
  (h0 : ∀ i k, x0 (ix2 i k) = ((F i k : ℝ) : EReal)) (h6 : ∀ (j : Fin 100000) k, x6 (ix2 j k) = ((G j.val k : ℝ) : EReal))

theorem temp_ne : temp ≠ 0 := by unfold temp; norm_num

include h0 h6 in
theorem scores_real (i : Fin 1024) (j : Fin 100000) : scores x0 x6 (ix2 i j) = ((dot F G i j.val / temp : ℝ) : EReal) := by
  rw [scores_apply]
  simp only [h0, h6, ← EReal.coe_mul]
  rw [sum_coe, Val.bits_temp, div_real _ _ temp_ne]
  rfl

theorem lse_univ (i : Fin 1024) : lse F G i = Real.log (∑ j : Fin 100000, Real.exp (dot F G i j.val / temp)) :=
  congrArg Real.log (Finset.sum_range _)

theorem soft_univ (n : ℝ) (i : Fin 1024) (t : ℕ) : soft F G n i t
    = -w9 * (dot F G i t / temp - lse F G i) - w1 / n * (∑ j : Fin 100000, dot F G i j.val / temp - (Fintype.card (Fin 100000) : ℝ) * lse F G i) := by
  unfold soft
  rw [Finset.sum_range, Fintype.card_fin]
  norm_num

include h0 h6 in
theorem logp_real (i : Fin 1024) (j : Fin 100000) :
    logp (scores x0 x6) (top (scores x0 x6)) (ix2 i j) = ((dot F G i j.val / temp - lse F G i : ℝ) : EReal) := by
  obtain ⟨t, ht⟩ := top_real (scores x0 x6) (fun p => by
    obtain ⟨a, b, rfl⟩ : ∃ (a : Fin 1024) (b : Fin 100000), p = ix2 a b := ⟨p 0, p 1, by funext a; fin_cases a <;> rfl⟩
    exact ⟨_, scores_real h0 h6 a b⟩) i
  rw [logp_apply, ht]
  simp only [scores_real h0 h6, ← EReal.coe_sub, Ideal.exp_coe]
  rw [sum_coe, log_real (Finset.sum_pos (fun j _ => Real.exp_pos _) ⟨j, Finset.mem_univ j⟩), ← EReal.coe_sub]
  haveI : Nonempty (Fin 100000) := ⟨j⟩
  rw [lse_univ]
  exact congrArg Real.toEReal (shift_real (fun j : Fin 100000 => dot F G i j.val / temp) t j)

include h0 h6 in
/-- The cross entropy of the soft targets. -/
theorem cross_real {oh : FVec Ideal S1024x100000 .f32} (ho : ∀ i j, oh (ix2 i j) = ((if l i = j then 1 else 0 : ℝ) : EReal)) {n : IVec S_ 32} {c : ℤ}
    (hn : (n ix0).toInt = c) (hc : (c : ℝ) ≠ 0) :
    cross (negSoft oh n) (logp (scores x0 x6) (top (scores x0 x6))) ix0
      = (((∑ i, soft F G c i (l i).val) * (1 / 1024) : ℝ) : EReal) := by
  rw [cross_apply]
  simp only [negSoft_apply, ho, hn, logp_real h0 h6]
  rw [Val.bits_w9, Val.bits_w1, Val.bits_1024, div_real _ _ hc]
  simp only [← EReal.coe_mul, ← EReal.coe_add, ← EReal.coe_neg, sum_coe, div_real _ _ (show (1024 : ℝ) ≠ 0 by norm_num)]
  simp only [soft_univ]
  exact congrArg Real.toEReal (cross_sums (fun i (j : Fin 100000) => dot F G i j.val / temp) (fun i => lse F G i) l w9 (w1 / c))

/-- The mean of the products of the unit rows, weighed. -/
theorem align_real {a b : FVec Ideal S1024x64 .f32} (ha : ∀ i k, a (ix2 i k) = ((U i k : ℝ) : EReal)) (hb : ∀ i k, b (ix2 i k) = ((M i k : ℝ) : EReal)) :
    align a b ix0 = ((-1 * ((∑ i, ∑ k, U i k * M i k) / 1024) * (1 / 4) : ℝ) : EReal) := by
  rw [align_apply]
  simp only [ha, hb, ← EReal.coe_mul, sum_coe]
  rw [Val.bits_neg_one, Val.bits_1024, Val.bits_quarter, div_real _ _ (by norm_num), ← EReal.coe_mul, ← EReal.coe_mul]

include h0 h6 in
/-- The reference's result. -/
theorem result_real (hU : ∀ i k, normed x0 (ix2 i k) = ((U i k : ℝ) : EReal)) (hM : ∀ i k, normed x1 (ix2 i k) = ((M i k : ℝ) : EReal))
    {at2 : Fin 1024 → Fin 100000} (h2 : ∀ i, x2 (ix1 i) = BitVec.ofNat 32 (at2 i).val) (hl : ∀ i, x7 (ix1 (at2 i)) = BitVec.ofNat 32 (l i).val)
    {c : ℤ} (hn : (classes x7 ix0).toInt = c) (hc : (c : ℝ) ≠ 0) :
    result x0 x1 x2 x6 x7 ix0
      = (((∑ i, soft F G c i (l i).val) * (1 / 1024) + -1 * ((∑ i, ∑ k, U i k * M i k) / 1024) * (1 / 4) : ℝ) : EReal) := by
  rw [result_apply, cross_real h0 h6 (l := l) (onehot_apply _ l fun i => (taken_apply x7 x2 i (at2 i) (h2 i)).trans (hl i)) hn hc,
    align_real hU hM, ← EReal.coe_add]

end

end Cert.Proof.Ref

end
-- ==== Proof.Alg.lean ====
/-
  On extended reals the kernel and the reference end with equal results.
-/
module

public import proofs.«01_k».proof.Proof.KVal
public import proofs.«01_k».proof.Proof.RefVal

@[expose] public section

set_option maxRecDepth 16384

noncomputable section

namespace Cert.Proof

open Idealize.ShloMosaic Idealize.SL.Sem Idealize.ShloMosaic.TcCoe
open Cert.Proof.Val (MaxOf soft unit sum_coe div_real)

/-! ## Words -/

theorem toInt_small (w : BitVec 32) (h : w.toNat < 5000) : w.toInt = (w.toNat : ℤ) := Ref.toInt_lt w (by omega)

theorem succ_small (w : BitVec 32) (h : w.toNat < 5000) : (IntOp.addi w 1#32).toInt = (w.toNat : ℤ) + 1 := by
  have e : (IntOp.addi w 1#32).toNat = w.toNat + 1 := by
    show (w + 1#32).toNat = _
    rw [BitVec.toNat_add, show (1#32 : BitVec 32).toNat = 1 from rfl, Nat.mod_eq_of_lt (by omega)]
  rw [Ref.toInt_lt _ (by rw [e]; omega), e]
  push_cast
  rfl

theorem at_word (w : BitVec 32) (h : w.toNat < 100000) : Mem.at100000 w = ix1 (⟨w.toNat, h⟩ : Fin 100000) := by
  funext a
  match a with
  | 0 => exact dif_pos h

/-- The fold of the signed maximum over all words is their largest. -/
theorem fold_maxOf {n : ℕ} (hn : 0 < n) (lab : ℕ → BitVec 32) (h : ∀ j, j < n → 0 ≤ (lab j).toInt) (x : Fin n → BitVec 32) (hx : ∀ j, x j = lab j.val) :
    MaxOf lab n (Finset.fold IntOp.maxsi 2147483648#32 x Finset.univ) := by
  obtain ⟨h1, -, h3⟩ := Val.fold_maxsi Finset.univ 2147483648#32 x
  have le : ∀ j, j < n → (lab j).toInt ≤ (Finset.fold IntOp.maxsi 2147483648#32 x Finset.univ).toInt := fun j hj => by
    have := h3 ⟨j, hj⟩ (Finset.mem_univ _)
    rwa [hx] at this
  have nn := (h 0 hn).trans (le 0 hn)
  refine ⟨?_, nn, le⟩
  rcases h1 with e | ⟨j, -, e⟩
  · rw [e] at nn
    exact absurd nn (by decide)
  · exact Or.inr ⟨j.val, j.isLt, e.trans (hx j)⟩

theorem maxOf_small {n : ℕ} {lab : ℕ → BitVec 32} {a : BitVec 32} (h : MaxOf lab n a) (hl : ∀ j, j < n → (lab j).toNat < 5000) : a.toNat < 5000 := by
  rcases h.attained with e | ⟨j, hj, e⟩
  · rw [e]; decide
  · rw [e]; exact hl j hj

/-! ## Unit rows -/

theorem normed_real {x : FVec Ideal Cert.ReferenceIdeal.S1024x64 .f32} {F : Fin 1024 → Fin 64 → ℝ} (h : ∀ i k, x (ix2 i k) = ((F i k : ℝ) : EReal))
    (hF : ∀ i, 0 < ∑ k, F i k * F i k) (i : Fin 1024) (k : Fin 64) : Ref.normed x (ix2 i k) = ((unit F i k : ℝ) : EReal) := by
  rw [Ref.normed_apply]
  simp only [h, ← EReal.coe_mul, sum_coe]
  rw [Ideal.sqrt_coe, if_neg (not_lt.2 (hF i).le), div_real _ _ (Real.sqrt_pos.2 (hF i)).ne']
  rfl

/-! ## The values -/

/-- The kernel's result is the reference's, of the same arguments. -/
theorem value_eq (m : (ℓ : Loc Cert.KernelIdeal.nD Cert.KernelIdeal.τ Cert.KernelIdeal.sig) → Buf (Elt Ideal) ℓ) (d : Dev Cert.KernelIdeal.nD)
    {x0 x1 : FVec Ideal Cert.ReferenceIdeal.S1024x64 .f32} {x2 : IVec Cert.ReferenceIdeal.S1024 32}
    {x6 : FVec Ideal Cert.ReferenceIdeal.S100000x64 .f32} {x7 : IVec Cert.ReferenceIdeal.S100000 32}
    (e0 : m (d.tc.loc Cert.KernelIdeal.main_arg0) = x0) (e1 : m (d.tc.loc Cert.KernelIdeal.main_arg1) = x1) (e2 : m (Mem.tLoc d) = x2)
    (e6 : m (d.tc.loc Cert.KernelIdeal.main_arg6) = x6) (e7 : m (Mem.lLoc d) = x7)
    (p2 : ∀ j, (x2 j).toNat < 100000) (p7 : ∀ j, (x7 j).toNat < 5000) (p0 : ∀ i, (x0 i : EReal) ≠ ⊤ ∧ (x0 i : EReal) ≠ ⊥)
    (p6 : ∀ i, (x6 i : EReal) ≠ ⊤ ∧ (x6 i : EReal) ≠ ⊥) (q0 : ∀ i : Fin 1024, 0 < ∑ k : Fin 64, (x0 (ix2 i k) : EReal) * x0 (ix2 i k))
    (q1 : ∀ i : Fin 1024, 0 < ∑ k : Fin 64, (x1 (ix2 i k) : EReal) * x1 (ix2 i k)) :
    (Mem.V4 m d (Proc.devRef .tc Cert.KernelIdeal.main_v5) ix0 : EReal) = Ref.result x0 x1 x2 x6 x7 ix0 := by
  -- the arguments as reals and numbers
  let F : Fin 1024 → Fin 64 → ℝ := fun i k => (x0 (ix2 i k) : EReal).toReal
  let G : ℕ → Fin 64 → ℝ := fun j k => if h : j < 100000 then (x6 (ix2 ⟨j, h⟩ k) : EReal).toReal else 0
  let lab : ℕ → BitVec 32 := fun j => if h : j < 100000 then x7 (ix1 ⟨j, h⟩) else 0#32
  let at2 : Fin 1024 → Fin 100000 := fun i => ⟨(x2 (ix1 i)).toNat, p2 _⟩
  let l : Fin 1024 → Fin 100000 := fun i => ⟨(x7 (ix1 (at2 i))).toNat, (p7 _).trans (by norm_num)⟩
  have h0 : ∀ i k, x0 (ix2 i k) = ((F i k : ℝ) : EReal) := fun i k => (EReal.coe_toReal (p0 _).1 (p0 _).2).symm
  have hG : ∀ (j : Fin 100000) k, G j.val k = (x6 (ix2 j k) : EReal).toReal := fun j k => dif_pos j.isLt
  have h6 : ∀ (j : Fin 100000) k, x6 (ix2 j k) = ((G j.val k : ℝ) : EReal) := fun j k => by
    rw [hG]; exact (EReal.coe_toReal (p6 _).1 (p6 _).2).symm
  have h7 : ∀ j : Fin 100000, x7 (ix1 j) = lab j.val := fun j => by
    have e : lab j.val = x7 (ix1 j) := dif_pos j.isLt
    exact e.symm
  have labs : ∀ j, j < 100000 → (lab j).toNat < 5000 := fun j hj => by rw [← h7 ⟨j, hj⟩]; exact p7 _
  have hF : ∀ i, 0 < ∑ k, F i k * F i k := fun i => by
    have := q0 i
    simp only [h0, ← EReal.coe_mul, sum_coe] at this
    exact EReal.coe_pos.1 this
  have h2 : ∀ i, x2 (ix1 i) = BitVec.ofNat 32 (at2 i).val := fun i => (BitVec.ofNat_toNat 32 _ |>.trans (BitVec.setWidth_eq _)).symm
  have hl : ∀ i, x7 (ix1 (at2 i)) = BitVec.ofNat 32 (l i).val := fun i => (BitVec.ofNat_toNat 32 _ |>.trans (BitVec.setWidth_eq _)).symm
  have hg : ∀ i, Mem.gathered m d (ix1 i) = BitVec.ofNat 32 (l i).val := fun i => by
    unfold Mem.gathered
    rw [e2, e7, at_word _ (p2 _)]
    exact hl i
  -- the second argument's rows over their norms
  choose M hM using fun i : Fin 1024 => Val.unit_row (fun k => x1 (ix2 i k)) (q1 i)
  have hM2 : ∀ i k, Ref.normed x1 (ix2 i k) = ((M i k : ℝ) : EReal) := fun i k => (Ref.normed_apply i x1 k).trans (hM i k).2
  -- the number of classes
  have ha := fold_maxOf (n := 100000) (by norm_num) lab (fun j hj => by rw [toInt_small _ (labs j hj)]; exact Int.natCast_nonneg _) (fun k => x7 (ix1 k)) h7
  have hs := succ_small _ (maxOf_small ha labs)
  have hc : ((IntOp.addi (Finset.fold IntOp.maxsi 2147483648#32 (fun k : Fin 100000 => x7 (ix1 k)) Finset.univ) 1#32).toInt : ℝ) ≠ 0 := by
    rw [hs]
    push_cast
    exact Nat.cast_add_one_ne_zero _
  refine (Mem.kernel_real (m := m) (d := d) (F := F) (G := G) (lab := lab) (l := fun i => (l i).val) (M := M) (x1 := x1)
    (fun i k => by rw [e0]; exact h0 i k) (fun j k => by rw [e6]; exact h6 j k) (fun j => by rw [e7]; exact h7 j) hg (fun i => (p7 _).trans (by norm_num)) ha hc hF
    (fun i k => by rw [e1]) (fun i k => (hM i k).1)).trans ?_
  exact (Ref.result_real h0 h6 (normed_real h0 hF) hM2 h2 hl (congrArg BitVec.toInt (Ref.classes_apply x7)) hc).symm

/-- On extended reals, from arguments in range with finite features and memory and no zero row of the features or of the second argument, the
    kernel and the reference run, end with equal results, and leave their arguments as they were. -/
theorem algebraic : Cert.algebraic_KernelIdeal_ReferenceIdeal_pre_ranges_finite := by
  intro m g m' g' hpre hargs
  have hm : Mem.PreOK m := fun d j => (Pre.ranges_finite _ _ _ _ _ _ _ _ (hpre d)).1 j
  refine ⟨fun c => Mem.V4 m c (Proc.devRef .tc Cert.KernelIdeal.main_v5),
    (θ_run _ _ _).mono (fun r h c => ⟨h.1 c _ (Mem.mem_ucs Cert.KernelIdeal.main_v5 (by decide)), Mem.args_unchanged m r h c⟩) (Mem.run_main m g hm),
    (θ_run _ _ _).mono (fun r h c => ⟨(h c).1.trans ?_, (h c).2⟩) (Cert.ReferenceIdeal.Value.run (F := Ideal) m' g')⟩
  obtain ⟨a0, a1, a2, -, -, -, a6, a7⟩ := hargs c
  obtain ⟨p2, p7, p0, p6, q0, q1⟩ := Pre.ranges_finite _ _ _ _ _ _ _ _ (hpre c)
  refine (Ref.res_eq m' c).trans ?_
  funext i
  obtain rfl : i = ix0 := funext fun a => a.elim0
  exact (value_eq m c a0.symm a1.symm a2.symm a6.symm a7.symm (by rw [a2]; exact p2) (by rw [a7]; exact p7) (by rw [a0]; exact p0) (by rw [a6]; exact p6)
    (by rw [a0]; exact q0) (by rw [a1]; exact q1)).symm

end Cert.Proof

end
-- ==== Proof.lean ====
/-
  The certificate: the two kernels' runs end with their arguments unchanged and their semaphores at zero, the
  reference's too, the named constants are what they are named for, and on extended reals the kernel's result is the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ranges
public import proofs.«01_k».proof.Proof.Gen.Pre_ranges_finite
public import proofs.«01_k».proof.Proof.Frame
public import proofs.«01_k».proof.Proof.BitsFrame
public import proofs.«01_k».proof.Proof.RefFrame
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The two constants the ideal kernel names read as their names say. -/
theorem preserves_constants : Cert.preserves_Kernel_KernelIdeal :=
  ⟨IdealRules.named_const.statement _ "log2e_over_temp" .f32 0x41E6D4CA#32 _ rfl,
    IdealRules.named_const.statement _ "ln2" .f32 0x3F317218#32 _ rfl⟩

/-- Every claim of the certificate. -/
theorem claim : Cert.Claim :=
  ⟨Cert.Kernel.Gen.facts, Cert.KernelIdeal.Gen.facts, Cert.ReferenceIdeal.Gen.facts, Cert.Pre_ranges.Gen.facts,
    Cert.Pre_ranges_finite.Gen.facts, frame_kernel, frame_kernelIdeal, frame_kernelIdeal_finite, frame_reference,
    frame_reference_finite, preserves_constants, algebraic⟩

end Cert.Proof

end
